-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3F8092F1#32 ((224 / 223 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x224x224 : Shape := ⟨4, ![4, 192, 224, 224]⟩
abbrev S4x1x224x224 : Shape := ⟨4, ![4, 1, 224, 224]⟩
abbrev S768x50176 : Shape := ⟨2, ![768, 50176]⟩
abbrev S4x50176 : Shape := ⟨2, ![4, 50176]⟩
abbrev S50176 : Shape := ⟨1, ![50176]⟩
abbrev S1792 : Shape := ⟨1, ![1792]⟩
abbrev S224 : Shape := ⟨1, ![224]⟩
abbrev S16 : Shape := ⟨1, ![16]⟩
abbrev S_ : Shape := ⟨0, ![]⟩
abbrev S1x50176 : Shape := ⟨2, ![1, 50176]⟩
abbrev S1x1792 : Shape := ⟨2, ![1, 1792]⟩

abbrev nBuf : Table → Nat
  | .hbm => 8
  | .local .scVector .vmem => 5
  | _ => 0

abbrev bufTy : (tb : Table) → Fin (nBuf tb) → BufTy
  | .hbm, ⟨0, _⟩ => ⟨S4x192x224x224, .f32⟩
  | .hbm, ⟨1, _⟩ => ⟨S4x1x224x224, .f32⟩
  | .hbm, ⟨2, _⟩ => ⟨S4x1x224x224, .f32⟩
  | .hbm, ⟨3, _⟩ => ⟨S768x50176, .f32⟩
  | .hbm, ⟨4, _⟩ => ⟨S4x50176, .f32⟩
  | .hbm, ⟨5, _⟩ => ⟨S4x50176, .f32⟩
  | .hbm, ⟨6, _⟩ => ⟨S768x50176, .f32⟩
  | .hbm, ⟨7, _⟩ => ⟨S4x192x224x224, .f32⟩
  | .local .scVector .vmem, ⟨0, _⟩ => ⟨S50176, .f32⟩
  | .local .scVector .vmem, ⟨1, _⟩ => ⟨S1792, .f32⟩
  | .local .scVector .vmem, ⟨2, _⟩ => ⟨S1792, .f32⟩
  | .local .scVector .vmem, ⟨3, _⟩ => ⟨S1792, .f32⟩
  | .local .scVector .vmem, ⟨4, _⟩ => ⟨S224, .f32⟩
  | _, _ => ⟨S4x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c14_i32 : BitVec 32 := 14#32
  let v2 : BitVec 32 := Scalar.addi c0_i32_0 c14_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg11 : BitVec 32 := Scf.iv c0_i32_0 c1_i32 k0_t1
  let c16_i32_7 : BitVec 32 := 16#32
  let v15 : BitVec 32 := Scalar.muli arg11 c16_i32_7
  let v16 : Index := Scalar.indexCast v15
  ![v16.toNat]
@[reducible] def k0_t2_loop : Scf.Loop 32 :=
  let c0_i32_3 : BitVec 32 := 0#32
  let c24_i32 : BitVec 32 := 24#32
  let v4 : BitVec 32 := Scalar.addi c0_i32_3 c24_i32
  let c1_i32_4 : BitVec 32 := 1#32
  ⟨c0_i32_3, v4, c1_i32_4⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_6 : BitVec 32 := 24#32
  let v6 : BitVec 32 := Scalar.muli v1 c24_i32_6
  let c0_i32_3 : BitVec 32 := 0#32
  let c1_i32_4 : BitVec 32 := 1#32
  let arg11 : BitVec 32 := Scf.iv c0_i32_3 c1_i32_4 k0_t2
  let v7 : BitVec 32 := Scalar.addi v6 arg11
  let c0_i32_18_r0 : BitVec 32 := 0#32
  ![v7.toNat, 0]
@[reducible] def k0_t3_loop : Scf.Loop 32 :=
  let c0_i32_14 : BitVec 32 := 0#32
  let c28_i32 : BitVec 32 := 28#32
  let v25 : BitVec 32 := Scalar.addi c0_i32_14 c28_i32
  let c1_i32_15 : BitVec 32 := 1#32
  ⟨c0_i32_14, v25, c1_i32_15⟩
def k0_off3 (i : grid0.Coords) (k0_t2 : Fin k0_t2_loop.trips) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_6 : BitVec 32 := 24#32
  let v6 : BitVec 32 := Scalar.muli v1 c24_i32_6
  let c0_i32_3 : BitVec 32 := 0#32
  let c1_i32_4 : BitVec 32 := 1#32
  let arg11 : BitVec 32 := Scf.iv c0_i32_3 c1_i32_4 k0_t2
  let v7 : BitVec 32 := Scalar.addi v6 arg11
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c192_i32 : BitVec 32 := 192#32
  let c0_i32_9 : BitVec 32 := 0#32
  let v14 : BitVec 1 := Scalar.cmpi .sgt c192_i32 c0_i32_9
  let v15 : BitVec 32 := Scalar.extui v14
  let c0_i32_10 : BitVec 32 := 0#32
  let v16 : BitVec 1 := Scalar.cmpi .slt c192_i32 c0_i32_10
  let v17 : BitVec 32 := Scalar.extui v16
  let v18 : BitVec 32 := Scalar.subi v15 v17
  let v19 : BitVec 1 := Scalar.cmpi .ne v13 v18
  let v20 : BitVec 32 := Scalar.remsi v7 c192_i32
  let c0_i32_11 : BitVec 32 := 0#32
  let v21 : BitVec 1 := Scalar.cmpi .ne v20 c0_i32_11
  let v22 : BitVec 1 := Scalar.andi v19 v21
  let v8 : BitVec 32 := Scalar.divsi v7 c192_i32
  let c1_i32_12 : BitVec 32 := 1#32
  let v23 : BitVec 32 := Scalar.subi v8 c1_i32_12
  let v24 : BitVec 32 := Scalar.select v22 v23 v8
  let c0_i32_14 : BitVec 32 := 0#32
  let c1_i32_15 : BitVec 32 := 1#32
  let arg13 : BitVec 32 := Scf.iv c0_i32_14 c1_i32_15 k0_t3
  let c1792_i32 : BitVec 32 := 1792#32
  let v27 : BitVec 32 := Scalar.muli arg13 c1792_i32
  ![v24.toNat, v27.toNat]
@[reducible] def k0_t4_loop : Scf.Loop 32 :=
  let c0_i32_19 : BitVec 32 := 0#32
  let c8_i32 : BitVec 32 := 8#32
  let v28 : BitVec 32 := Scalar.addi c0_i32_19 c8_i32
  let c1_i32_20 : BitVec 32 := 1#32
  ⟨c0_i32_19, v28, c1_i32_20⟩
@[reducible] def k0_t5_loop : Scf.Loop 32 :=
  let c0_i32_26 : BitVec 32 := 0#32
  let c14_i32_27 : BitVec 32 := 14#32
  let v35 : BitVec 32 := Scalar.addi c0_i32_26 c14_i32_27
  let c1_i32_28 : BitVec 32 := 1#32
  ⟨c0_i32_26, v35, c1_i32_28⟩
def k0_off4 (k0_t4 : Fin k0_t4_loop.trips) (k0_t5 : Fin k0_t5_loop.trips) : Fin 1 → Nat :=
  let c0_i32_19 : BitVec 32 := 0#32
  let c1_i32_20 : BitVec 32 := 1#32
  let arg15 : BitVec 32 := Scf.iv c0_i32_19 c1_i32_20 k0_t4
  let c14_i32_31 : BitVec 32 := 14#32
  let v37 : BitVec 32 := Scalar.muli arg15 c14_i32_31
  let c0_i32_26 : BitVec 32 := 0#32
  let c1_i32_28 : BitVec 32 := 1#32
  let arg17 : BitVec 32 := Scf.iv c0_i32_26 c1_i32_28 k0_t5
  let v38 : BitVec 32 := Scalar.addi v37 arg17
  let c16_i32 : BitVec 32 := 16#32
  let v39 : BitVec 32 := Scalar.muli v38 c16_i32
  let v40 : Index := Scalar.indexCast v39
  ![v40.toNat]
def k0_off5 (k0_t5 : Fin k0_t5_loop.trips) : Fin 1 → Nat :=
  let c0_i32_26 : BitVec 32 := 0#32
  let c1_i32_28 : BitVec 32 := 1#32
  let arg17 : BitVec 32 := Scf.iv c0_i32_26 c1_i32_28 k0_t5
  let c16_i32_32 : BitVec 32 := 16#32
  let v44 : BitVec 32 := Scalar.muli arg17 c16_i32_32
  let v45 : Index := Scalar.indexCast v44
  ![v45.toNat]

def k0_chk1 (v125 : IVec S16 32) : Prop :=
  (∀ a x, ((![v125] : Fin 1 → IVec S16 32) a x).toNat < S50176.size a)
theorem k0_idx1_inb : ∀ (v125 : IVec S16 32) (k0_hw1 : k0_chk1 v125), ∀ a x, ((![v125] : Fin 1 → IVec S16 32) a x).toNat < S50176.size a := fun v125 k0_hw1 => k0_hw1

def k0_chk2 (v127 : IVec S16 32) : Prop :=
  (∀ a x, ((![v127] : Fin 1 → IVec S16 32) a x).toNat < S50176.size a)
theorem k0_idx2_inb : ∀ (v127 : IVec S16 32) (k0_hw2 : k0_chk2 v127), ∀ a x, ((![v127] : Fin 1 → IVec S16 32) a x).toNat < S50176.size a := fun v127 k0_hw2 => k0_hw2

def k0_chk3 (v129 : IVec S16 32) : Prop :=
  (∀ a x, ((![v129] : Fin 1 → IVec S16 32) a x).toNat < S50176.size a)
theorem k0_idx3_inb : ∀ (v129 : IVec S16 32) (k0_hw3 : k0_chk3 v129), ∀ a x, ((![v129] : Fin 1 → IVec S16 32) a x).toNat < S50176.size a := fun v129 k0_hw3 => k0_hw3

def k0_chk4 (v131 : IVec S16 32) : Prop :=
  (∀ a x, ((![v131] : Fin 1 → IVec S16 32) a x).toNat < S50176.size a)
theorem k0_idx4_inb : ∀ (v131 : IVec S16 32) (k0_hw4 : k0_chk4 v131), ∀ a x, ((![v131] : Fin 1 → IVec S16 32) a x).toNat < S50176.size a := fun v131 k0_hw4 => k0_hw4
def k0_off6 (k0_t4 : Fin k0_t4_loop.trips) (k0_t5 : Fin k0_t5_loop.trips) : Fin 1 → Nat :=
  let c0_i32_19 : BitVec 32 := 0#32
  let c1_i32_20 : BitVec 32 := 1#32
  let arg15 : BitVec 32 := Scf.iv c0_i32_19 c1_i32_20 k0_t4
  let c14_i32_31 : BitVec 32 := 14#32
  let v37 : BitVec 32 := Scalar.muli arg15 c14_i32_31
  let c0_i32_26 : BitVec 32 := 0#32
  let c1_i32_28 : BitVec 32 := 1#32
  let arg17 : BitVec 32 := Scf.iv c0_i32_26 c1_i32_28 k0_t5
  let v38 : BitVec 32 := Scalar.addi v37 arg17
  let c16_i32 : BitVec 32 := 16#32
  let v39 : BitVec 32 := Scalar.muli v38 c16_i32
  let v142 : Index := Scalar.indexCast v39
  ![v142.toNat]
def k0_off7 (i : grid0.Coords) (k0_t2 : Fin k0_t2_loop.trips) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_6 : BitVec 32 := 24#32
  let v6 : BitVec 32 := Scalar.muli v1 c24_i32_6
  let c0_i32_3 : BitVec 32 := 0#32
  let c1_i32_4 : BitVec 32 := 1#32
  let arg11 : BitVec 32 := Scf.iv c0_i32_3 c1_i32_4 k0_t2
  let v7 : BitVec 32 := Scalar.addi v6 arg11
  let c0_i32_14 : BitVec 32 := 0#32
  let c1_i32_15 : BitVec 32 := 1#32
  let arg13 : BitVec 32 := Scf.iv c0_i32_14 c1_i32_15 k0_t3
  let c1792_i32 : BitVec 32 := 1792#32
  let v27 : BitVec 32 := Scalar.muli arg13 c1792_i32
  ![v7.toNat, v27.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "scale" => some ((224 / 223 : ℝ) : EReal)
  | _ => none
-- ==== ReferenceIdeal.lean ====
abbrev S4x192x224x224 : Shape := ⟨4, ![4, 192, 224, 224]⟩
abbrev S4x1x224x224 : Shape := ⟨4, ![4, 1, 224, 224]⟩
abbrev S224 : Shape := ⟨1, ![224]⟩
abbrev S224x224 : Shape := ⟨2, ![224, 224]⟩
abbrev S4x224x224x1 : Shape := ⟨4, ![4, 224, 224, 1]⟩
abbrev S4x224x224 : Shape := ⟨3, ![4, 224, 224]⟩
abbrev S1x224x224 : Shape := ⟨3, ![1, 224, 224]⟩
abbrev S_ : Shape := ⟨0, ![]⟩
abbrev S4x224x224x2 : Shape := ⟨4, ![4, 224, 224, 2]⟩
abbrev S4x192x50176 : Shape := ⟨3, ![4, 192, 50176]⟩
abbrev S4x1x50176 : Shape := ⟨3, ![4, 1, 50176]⟩
abbrev S4x192x50176x1 : Shape := ⟨4, ![4, 192, 50176, 1]⟩
abbrev S1 : Shape := ⟨1, ![1]⟩
abbrev S1x1x1x1 : Shape := ⟨4, ![1, 1, 1, 1]⟩

abbrev nBuf : Space → Nat
  | .hbm => 363
  | .vmem => 0
  | .smem => 0
  | _ => 0

abbrev hbmTy0_0 (i : Nat) : BufTy := match i % 128 with
  | 0 => ⟨S4x192x224x224, .f32⟩
  | 1 => ⟨S4x1x224x224, .f32⟩
  | 2 => ⟨S4x1x224x224, .f32⟩
  | 3 => ⟨S224, .f32⟩
  | 4 => ⟨S224, .f32⟩
  | 5 => ⟨S224x224, .f32⟩
  | 6 => ⟨S224x224, .f32⟩
  | 7 => ⟨S4x224x224x1, .f32⟩
  | 8 => ⟨S4x224x224, .f32⟩
  | 9 => ⟨S4x224x224x1, .f32⟩
  | 10 => ⟨S4x224x224, .f32⟩
  | 11 => ⟨S1x224x224, .f32⟩
  | 12 => ⟨S4x224x224, .f32⟩
  | 13 => ⟨S4x224x224, .f32⟩
  | 14 => ⟨S_, .f32⟩
  | 15 => ⟨S4x224x224, .f32⟩
  | 16 => ⟨S4x224x224, .f32⟩
  | 17 => ⟨S_, .f32⟩
  | 18 => ⟨S4x224x224, .f32⟩
  | 19 => ⟨S4x224x224, .f32⟩
  | 20 => ⟨S_, .f32⟩
  | 21 => ⟨S4x224x224, .f32⟩
  | 22 => ⟨S4x224x224, .f32⟩
  | 23 => ⟨S1x224x224, .f32⟩
  | 24 => ⟨S4x224x224, .f32⟩
  | 25 => ⟨S4x224x224, .f32⟩
  | 26 => ⟨S_, .f32⟩
  | 27 => ⟨S4x224x224, .f32⟩
  | 28 => ⟨S4x224x224, .f32⟩
  | 29 => ⟨S_, .f32⟩
  | 30 => ⟨S4x224x224, .f32⟩
  | 31 => ⟨S4x224x224, .f32⟩
  | 32 => ⟨S_, .f32⟩
  | 33 => ⟨S4x224x224, .f32⟩
  | 34 => ⟨S4x224x224, .f32⟩
  | 35 => ⟨S4x224x224x1, .f32⟩
  | 36 => ⟨S4x224x224x1, .f32⟩
  | 37 => ⟨S4x224x224x2, .f32⟩
  | 38 => ⟨S4x224x224x1, .f32⟩
  | 39 => ⟨S4x224x224, .f32⟩
  | 40 => ⟨S4x224x224x1, .f32⟩
  | 41 => ⟨S4x224x224, .f32⟩
  | 42 => ⟨S_, .f32⟩
  | 43 => ⟨S4x224x224, .f32⟩
  | 44 => ⟨S4x224x224, .f32⟩
  | 45 => ⟨S_, .f32⟩
  | 46 => ⟨S4x224x224, .f32⟩
  | 47 => ⟨S4x224x224, .f32⟩
  | 48 => ⟨S_, .f32⟩
  | 49 => ⟨S4x224x224, .f32⟩
  | 50 => ⟨S4x224x224, .f32⟩
  | 51 => ⟨S_, .f32⟩
  | 52 => ⟨S4x224x224, .f32⟩
  | 53 => ⟨S4x224x224, .f32⟩
  | 54 => ⟨S_, .f32⟩
  | 55 => ⟨S4x224x224, .f32⟩
  | 56 => ⟨S4x224x224, .f32⟩
  | 57 => ⟨S_, .f32⟩
  | 58 => ⟨S4x224x224, .f32⟩
  | 59 => ⟨S4x224x224, .f32⟩
  | 60 => ⟨S_, .f32⟩
  | 61 => ⟨S4x224x224, .f32⟩
  | 62 => ⟨S4x224x224, .f32⟩
  | 63 => ⟨S_, .f32⟩
  | 64 => ⟨S4x224x224, .f32⟩
  | 65 => ⟨S4x224x224, .f32⟩
  | 66 => ⟨S4x224x224, .f32⟩
  | 67 => ⟨S4x224x224, .f32⟩
  | 68 => ⟨S_, .f32⟩
  | 69 => ⟨S4x224x224, .f32⟩
  | 70 => ⟨S4x224x224, .f32⟩
  | 71 => ⟨S_, .f32⟩
  | 72 => ⟨S4x224x224, .f32⟩
  | 73 => ⟨S4x224x224, .f32⟩
  | 74 => ⟨S4x224x224, .f32⟩
  | 75 => ⟨S_, .f32⟩
  | 76 => ⟨S4x224x224, .f32⟩
  | 77 => ⟨S4x224x224, .f32⟩
  | 78 => ⟨S4x224x224, .f32⟩
  | 79 => ⟨S_, .f32⟩
  | 80 => ⟨S4x224x224, .f32⟩
  | 81 => ⟨S4x224x224, .f32⟩
  | 82 => ⟨S4x192x50176, .f32⟩
  | 83 => ⟨S_, .f32⟩
  | 84 => ⟨S4x224x224, .f32⟩
  | 85 => ⟨S4x224x224, .i1⟩
  | 86 => ⟨S_, .f32⟩
  | 87 => ⟨S4x224x224, .f32⟩
  | 88 => ⟨S4x224x224, .i1⟩
  | 89 => ⟨S4x224x224, .i1⟩
  | 90 => ⟨S_, .f32⟩
  | 91 => ⟨S4x224x224, .f32⟩
  | 92 => ⟨S4x224x224, .i1⟩
  | 93 => ⟨S4x224x224, .i1⟩
  | 94 => ⟨S_, .f32⟩
  | 95 => ⟨S4x224x224, .f32⟩
  | 96 => ⟨S4x224x224, .i1⟩
  | 97 => ⟨S4x224x224, .i1⟩
  | 98 => ⟨S_, .i32⟩
  | 99 => ⟨S_, .i32⟩
  | 100 => ⟨S_, .f32⟩
  | 101 => ⟨S4x224x224, .f32⟩
  | 102 => ⟨S4x224x224, .f32⟩
  | 103 => ⟨S_, .f32⟩
  | 104 => ⟨S4x224x224, .f32⟩
  | 105 => ⟨S4x224x224, .f32⟩
  | 106 => ⟨S4x224x224, .i32⟩
  | 107 => ⟨S_, .i32⟩
  | 108 => ⟨S_, .i32⟩
  | 109 => ⟨S_, .f32⟩
  | 110 => ⟨S4x224x224, .f32⟩
  | 111 => ⟨S4x224x224, .f32⟩
  | 112 => ⟨S_, .f32⟩
  | 113 => ⟨S4x224x224, .f32⟩
  | 114 => ⟨S4x224x224, .f32⟩
  | 115 => ⟨S4x224x224, .i32⟩
  | 116 => ⟨S_, .i32⟩
  | 117 => ⟨S4x224x224, .i32⟩
  | 118 => ⟨S4x224x224, .i32⟩
  | 119 => ⟨S4x224x224, .i32⟩
  | 120 => ⟨S4x1x50176, .i32⟩
  | 121 => ⟨S4x192x50176, .i32⟩
  | 122 => ⟨S_, .i32⟩
  | 123 => ⟨S4x192x50176, .i32⟩
  | 124 => ⟨S4x192x50176, .i1⟩
  | 125 => ⟨S_, .i32⟩
  | 126 => ⟨S4x192x50176, .i32⟩
  | 127 => ⟨S4x192x50176, .i32⟩
  | _ => ⟨S4x192x224x224, .f32⟩

abbrev hbmTy0_1 (i : Nat) : BufTy := match i % 128 with
  | 0 => ⟨S4x192x50176, .i32⟩
  | 1 => ⟨S4x192x50176x1, .i32⟩
  | 2 => ⟨S1, .i32⟩
  | 3 => ⟨S_, .i32⟩
  | 4 => ⟨S4x192x50176x1, .i32⟩
  | 5 => ⟨S4x192x50176x1, .i1⟩
  | 6 => ⟨S1x1x1x1, .i32⟩
  | 7 => ⟨S4x192x50176x1, .i32⟩
  | 8 => ⟨S4x192x50176x1, .i1⟩
  | 9 => ⟨S4x192x50176x1, .i1⟩
  | 10 => ⟨S_, .i1⟩
  | 11 => ⟨S4x192x50176, .i1⟩
  | 12 => ⟨S4x192x50176, .f32⟩
  | 13 => ⟨S_, .f32⟩
  | 14 => ⟨S4x192x50176, .f32⟩
  | 15 => ⟨S4x192x50176, .f32⟩
  | 16 => ⟨S4x1x50176, .i1⟩
  | 17 => ⟨S4x1x50176, .f32⟩
  | 18 => ⟨S4x192x50176, .f32⟩
  | 19 => ⟨S4x192x50176, .f32⟩
  | 20 => ⟨S_, .f32⟩
  | 21 => ⟨S4x224x224, .f32⟩
  | 22 => ⟨S4x224x224, .i1⟩
  | 23 => ⟨S_, .f32⟩
  | 24 => ⟨S4x224x224, .f32⟩
  | 25 => ⟨S4x224x224, .i1⟩
  | 26 => ⟨S4x224x224, .i1⟩
  | 27 => ⟨S_, .f32⟩
  | 28 => ⟨S4x224x224, .f32⟩
  | 29 => ⟨S4x224x224, .i1⟩
  | 30 => ⟨S4x224x224, .i1⟩
  | 31 => ⟨S_, .f32⟩
  | 32 => ⟨S4x224x224, .f32⟩
  | 33 => ⟨S4x224x224, .i1⟩
  | 34 => ⟨S4x224x224, .i1⟩
  | 35 => ⟨S_, .i32⟩
  | 36 => ⟨S_, .i32⟩
  | 37 => ⟨S_, .f32⟩
  | 38 => ⟨S4x224x224, .f32⟩
  | 39 => ⟨S4x224x224, .f32⟩
  | 40 => ⟨S_, .f32⟩
  | 41 => ⟨S4x224x224, .f32⟩
  | 42 => ⟨S4x224x224, .f32⟩
  | 43 => ⟨S4x224x224, .i32⟩
  | 44 => ⟨S_, .i32⟩
  | 45 => ⟨S_, .i32⟩
  | 46 => ⟨S_, .f32⟩
  | 47 => ⟨S4x224x224, .f32⟩
  | 48 => ⟨S4x224x224, .f32⟩
  | 49 => ⟨S_, .f32⟩
  | 50 => ⟨S4x224x224, .f32⟩
  | 51 => ⟨S4x224x224, .f32⟩
  | 52 => ⟨S4x224x224, .i32⟩
  | 53 => ⟨S_, .i32⟩
  | 54 => ⟨S4x224x224, .i32⟩
  | 55 => ⟨S4x224x224, .i32⟩
  | 56 => ⟨S4x224x224, .i32⟩
  | 57 => ⟨S4x1x50176, .i32⟩
  | 58 => ⟨S4x192x50176, .i32⟩
  | 59 => ⟨S_, .i32⟩
  | 60 => ⟨S4x192x50176, .i32⟩
  | 61 => ⟨S4x192x50176, .i1⟩
  | 62 => ⟨S_, .i32⟩
  | 63 => ⟨S4x192x50176, .i32⟩
  | 64 => ⟨S4x192x50176, .i32⟩
  | 65 => ⟨S4x192x50176, .i32⟩
  | 66 => ⟨S4x192x50176x1, .i32⟩
  | 67 => ⟨S1, .i32⟩
  | 68 => ⟨S_, .i32⟩
  | 69 => ⟨S4x192x50176x1, .i32⟩
  | 70 => ⟨S4x192x50176x1, .i1⟩
  | 71 => ⟨S1x1x1x1, .i32⟩
  | 72 => ⟨S4x192x50176x1, .i32⟩
  | 73 => ⟨S4x192x50176x1, .i1⟩
  | 74 => ⟨S4x192x50176x1, .i1⟩
  | 75 => ⟨S_, .i1⟩
  | 76 => ⟨S4x192x50176, .i1⟩
  | 77 => ⟨S4x192x50176, .f32⟩
  | 78 => ⟨S_, .f32⟩
  | 79 => ⟨S4x192x50176, .f32⟩
  | 80 => ⟨S4x192x50176, .f32⟩
  | 81 => ⟨S4x1x50176, .i1⟩
  | 82 => ⟨S4x1x50176, .f32⟩
  | 83 => ⟨S4x192x50176, .f32⟩
  | 84 => ⟨S4x192x50176, .f32⟩
  | 85 => ⟨S_, .f32⟩
  | 86 => ⟨S4x224x224, .f32⟩
  | 87 => ⟨S4x224x224, .i1⟩
  | 88 => ⟨S_, .f32⟩
  | 89 => ⟨S4x224x224, .f32⟩
  | 90 => ⟨S4x224x224, .i1⟩
  | 91 => ⟨S4x224x224, .i1⟩
  | 92 => ⟨S_, .f32⟩
  | 93 => ⟨S4x224x224, .f32⟩
  | 94 => ⟨S4x224x224, .i1⟩
  | 95 => ⟨S4x224x224, .i1⟩
  | 96 => ⟨S_, .f32⟩
  | 97 => ⟨S4x224x224, .f32⟩
  | 98 => ⟨S4x224x224, .i1⟩
  | 99 => ⟨S4x224x224, .i1⟩
  | 100 => ⟨S_, .i32⟩
  | 101 => ⟨S_, .i32⟩
  | 102 => ⟨S_, .f32⟩
  | 103 => ⟨S4x224x224, .f32⟩
  | 104 => ⟨S4x224x224, .f32⟩
  | 105 => ⟨S_, .f32⟩
  | 106 => ⟨S4x224x224, .f32⟩
  | 107 => ⟨S4x224x224, .f32⟩
  | 108 => ⟨S4x224x224, .i32⟩
  | 109 => ⟨S_, .i32⟩
  | 110 => ⟨S_, .i32⟩
  | 111 => ⟨S_, .f32⟩
  | 112 => ⟨S4x224x224, .f32⟩
  | 113 => ⟨S4x224x224, .f32⟩
  | 114 => ⟨S_, .f32⟩
  | 115 => ⟨S4x224x224, .f32⟩
  | 116 => ⟨S4x224x224, .f32⟩
  | 117 => ⟨S4x224x224, .i32⟩
  | 118 => ⟨S_, .i32⟩
  | 119 => ⟨S4x224x224, .i32⟩
  | 120 => ⟨S4x224x224, .i32⟩
  | 121 => ⟨S4x224x224, .i32⟩
  | 122 => ⟨S4x1x50176, .i32⟩
  | 123 => ⟨S4x192x50176, .i32⟩
  | 124 => ⟨S_, .i32⟩
  | 125 => ⟨S4x192x50176, .i32⟩
  | 126 => ⟨S4x192x50176, .i1⟩
  | 127 => ⟨S_, .i32⟩
  | _ => ⟨S4x192x224x224, .f32⟩

abbrev hbmTy0_2 (i : Nat) : BufTy := match i % 128 with
  | 0 => ⟨S4x192x50176, .i32⟩
  | 1 => ⟨S4x192x50176, .i32⟩
  | 2 => ⟨S4x192x50176, .i32⟩
  | 3 => ⟨S4x192x50176x1, .i32⟩
  | 4 => ⟨S1, .i32⟩
  | 5 => ⟨S_, .i32⟩
  | 6 => ⟨S4x192x50176x1, .i32⟩
  | 7 => ⟨S4x192x50176x1, .i1⟩
  | 8 => ⟨S1x1x1x1, .i32⟩
  | 9 => ⟨S4x192x50176x1, .i32⟩
  | 10 => ⟨S4x192x50176x1, .i1⟩
  | 11 => ⟨S4x192x50176x1, .i1⟩
  | 12 => ⟨S_, .i1⟩
  | 13 => ⟨S4x192x50176, .i1⟩
  | 14 => ⟨S4x192x50176, .f32⟩
  | 15 => ⟨S_, .f32⟩
  | 16 => ⟨S4x192x50176, .f32⟩
  | 17 => ⟨S4x192x50176, .f32⟩
  | 18 => ⟨S4x1x50176, .i1⟩
  | 19 => ⟨S4x1x50176, .f32⟩
  | 20 => ⟨S4x192x50176, .f32⟩
  | 21 => ⟨S4x192x50176, .f32⟩
  | 22 => ⟨S_, .f32⟩
  | 23 => ⟨S4x224x224, .f32⟩
  | 24 => ⟨S4x224x224, .i1⟩
  | 25 => ⟨S_, .f32⟩
  | 26 => ⟨S4x224x224, .f32⟩
  | 27 => ⟨S4x224x224, .i1⟩
  | 28 => ⟨S4x224x224, .i1⟩
  | 29 => ⟨S_, .f32⟩
  | 30 => ⟨S4x224x224, .f32⟩
  | 31 => ⟨S4x224x224, .i1⟩
  | 32 => ⟨S4x224x224, .i1⟩
  | 33 => ⟨S_, .f32⟩
  | 34 => ⟨S4x224x224, .f32⟩
  | 35 => ⟨S4x224x224, .i1⟩
  | 36 => ⟨S4x224x224, .i1⟩
  | 37 => ⟨S_, .i32⟩
  | 38 => ⟨S_, .i32⟩
  | 39 => ⟨S_, .f32⟩
  | 40 => ⟨S4x224x224, .f32⟩
  | 41 => ⟨S4x224x224, .f32⟩
  | 42 => ⟨S_, .f32⟩
  | 43 => ⟨S4x224x224, .f32⟩
  | 44 => ⟨S4x224x224, .f32⟩
  | 45 => ⟨S4x224x224, .i32⟩
  | 46 => ⟨S_, .i32⟩
  | 47 => ⟨S_, .i32⟩
  | 48 => ⟨S_, .f32⟩
  | 49 => ⟨S4x224x224, .f32⟩
  | 50 => ⟨S4x224x224, .f32⟩
  | 51 => ⟨S_, .f32⟩
  | 52 => ⟨S4x224x224, .f32⟩
  | 53 => ⟨S4x224x224, .f32⟩
  | 54 => ⟨S4x224x224, .i32⟩
  | 55 => ⟨S_, .i32⟩
  | 56 => ⟨S4x224x224, .i32⟩
  | 57 => ⟨S4x224x224, .i32⟩
  | 58 => ⟨S4x224x224, .i32⟩
  | 59 => ⟨S4x1x50176, .i32⟩
  | 60 => ⟨S4x192x50176, .i32⟩
  | 61 => ⟨S_, .i32⟩
  | 62 => ⟨S4x192x50176, .i32⟩
  | 63 => ⟨S4x192x50176, .i1⟩
  | 64 => ⟨S_, .i32⟩
  | 65 => ⟨S4x192x50176, .i32⟩
  | 66 => ⟨S4x192x50176, .i32⟩
  | 67 => ⟨S4x192x50176, .i32⟩
  | 68 => ⟨S4x192x50176x1, .i32⟩
  | 69 => ⟨S1, .i32⟩
  | 70 => ⟨S_, .i32⟩
  | 71 => ⟨S4x192x50176x1, .i32⟩
  | 72 => ⟨S4x192x50176x1, .i1⟩
  | 73 => ⟨S1x1x1x1, .i32⟩
  | 74 => ⟨S4x192x50176x1, .i32⟩
  | 75 => ⟨S4x192x50176x1, .i1⟩
  | 76 => ⟨S4x192x50176x1, .i1⟩
  | 77 => ⟨S_, .i1⟩
  | 78 => ⟨S4x192x50176, .i1⟩
  | 79 => ⟨S4x192x50176, .f32⟩
  | 80 => ⟨S_, .f32⟩
  | 81 => ⟨S4x192x50176, .f32⟩
  | 82 => ⟨S4x192x50176, .f32⟩
  | 83 => ⟨S4x1x50176, .i1⟩
  | 84 => ⟨S4x1x50176, .f32⟩
  | 85 => ⟨S4x192x50176, .f32⟩
  | 86 => ⟨S4x192x50176, .f32⟩
  | 87 => ⟨S4x224x224, .f32⟩
  | 88 => ⟨S4x1x50176, .f32⟩
  | 89 => ⟨S4x224x224, .f32⟩
  | 90 => ⟨S4x1x50176, .f32⟩
  | 91 => ⟨S4x224x224, .f32⟩
  | 92 => ⟨S4x1x50176, .f32⟩
  | 93 => ⟨S4x224x224, .f32⟩
  | 94 => ⟨S4x1x50176, .f32⟩
  | 95 => ⟨S4x192x50176, .f32⟩
  | 96 => ⟨S4x192x50176, .f32⟩
  | 97 => ⟨S4x192x50176, .f32⟩
  | 98 => ⟨S4x192x50176, .f32⟩
  | 99 => ⟨S4x192x50176, .f32⟩
  | 100 => ⟨S4x192x50176, .f32⟩
  | 101 => ⟨S4x192x50176, .f32⟩
  | 102 => ⟨S4x192x50176, .f32⟩
  | 103 => ⟨S4x192x50176, .f32⟩
  | 104 => ⟨S4x192x50176, .f32⟩
  | 105 => ⟨S4x192x50176, .f32⟩
  | 106 => ⟨S4x192x224x224, .f32⟩
  | _ => ⟨S4x192x224x224, .f32⟩

abbrev hbmTy (i : Nat) : BufTy := match i / 128 with
  | 0 => hbmTy0_0 i
  | 1 => hbmTy0_1 i
  | 2 => hbmTy0_2 i
  | _ => ⟨S4x192x224x224, .f32⟩

abbrev bufTy : (tb : Table) → Fin (tcTables nBuf tb) → BufTy
  | .hbm, ⟨i, _⟩ => hbmTy i
  | _, _ => ⟨S4x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_17 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c : Ref sig .tc := ⟨.hbm, 98, rfl⟩
abbrev main_c_21 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v73 : Ref sig .tc := ⟨.hbm, 105, rfl⟩
abbrev main_v74 : Ref sig .tc := ⟨.hbm, 106, rfl⟩
abbrev main_c_22 : Ref sig .tc := ⟨.hbm, 107, rfl⟩
abbrev main_c_23 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_v75 : Ref sig .tc := ⟨.hbm, 114, rfl⟩
abbrev main_v76 : Ref sig .tc := ⟨.hbm, 115, rfl⟩
abbrev main_c_24 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_cst : Ref sig .tc := ⟨.hbm, 141, rfl⟩
abbrev main_call2_v14 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_25 : Ref sig .tc := ⟨.hbm, 148, rfl⟩
abbrev main_v87 : Ref sig .tc := ⟨.hbm, 149, rfl⟩
abbrev main_v88 : Ref sig .tc := ⟨.hbm, 150, rfl⟩
abbrev main_cst_26 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_cst_27 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_28 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_c_29 : Ref sig .tc := ⟨.hbm, 163, rfl⟩
abbrev main_c_30 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_v98 : Ref sig .tc := ⟨.hbm, 170, rfl⟩
abbrev main_v99 : Ref sig .tc := ⟨.hbm, 171, rfl⟩
abbrev main_c_31 : Ref sig .tc := ⟨.hbm, 172, rfl⟩
abbrev main_c_32 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_v100 : Ref sig .tc := ⟨.hbm, 179, rfl⟩
abbrev main_v101 : Ref sig .tc := ⟨.hbm, 180, rfl⟩
abbrev main_c_33 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_cst : Ref sig .tc := ⟨.hbm, 206, rfl⟩
abbrev main_call5_v14 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_v111 : Ref sig .tc := ⟨.hbm, 212, rfl⟩
abbrev main_cst_34 : Ref sig .tc := ⟨.hbm, 213, rfl⟩
abbrev main_v112 : Ref sig .tc := ⟨.hbm, 214, rfl⟩
abbrev main_v113 : Ref sig .tc := ⟨.hbm, 215, rfl⟩
abbrev main_cst_35 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_cst_36 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_cst_37 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_c_38 : Ref sig .tc := ⟨.hbm, 228, rfl⟩
abbrev main_c_39 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v123 : Ref sig .tc := ⟨.hbm, 235, rfl⟩
abbrev main_v124 : Ref sig .tc := ⟨.hbm, 236, rfl⟩
abbrev main_c_40 : Ref sig .tc := ⟨.hbm, 237, rfl⟩
abbrev main_c_41 : Ref sig .tc := ⟨.hbm, 238, rfl⟩
abbrev main_call7_v0 : Ref sig .tc := ⟨.hbm, 239, rfl⟩
abbrev main_call7_v1 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_v125 : Ref sig .tc := ⟨.hbm, 244, rfl⟩
abbrev main_v126 : Ref sig .tc := ⟨.hbm, 245, rfl⟩
abbrev main_c_42 : Ref sig .tc := ⟨.hbm, 246, rfl⟩
abbrev main_v127 : Ref sig .tc := ⟨.hbm, 247, rfl⟩
abbrev main_v128 : Ref sig .tc := ⟨.hbm, 248, rfl⟩
abbrev main_v129 : Ref sig .tc := ⟨.hbm, 249, rfl⟩
abbrev main_v130 : Ref sig .tc := ⟨.hbm, 250, rfl⟩
abbrev main_v131 : Ref sig .tc := ⟨.hbm, 251, rfl⟩
abbrev main_call8_c : Ref sig .tc := ⟨.hbm, 252, rfl⟩
abbrev main_call8_v0 : Ref sig .tc := ⟨.hbm, 253, rfl⟩
abbrev main_call8_v1 : Ref sig .tc := ⟨.hbm, 254, rfl⟩
abbrev main_call8_c_0 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_call8_v5 : Ref sig .tc := ⟨.hbm, 259, rfl⟩
abbrev main_call8_c_1 : Ref sig .tc := ⟨.hbm, 260, rfl⟩
abbrev main_call8_c_2 : Ref sig .tc := ⟨.hbm, 261, rfl⟩
abbrev main_call8_v6 : Ref sig .tc := ⟨.hbm, 262, rfl⟩
abbrev main_call8_v7 : Ref sig .tc := ⟨.hbm, 263, rfl⟩
abbrev main_call8_v8 : Ref sig .tc := ⟨.hbm, 264, rfl⟩
abbrev main_call8_v9 : Ref sig .tc := ⟨.hbm, 265, rfl⟩
abbrev main_call8_v10 : Ref sig .tc := ⟨.hbm, 266, rfl⟩
abbrev main_call8_v11 : Ref sig .tc := ⟨.hbm, 267, rfl⟩
abbrev main_call8_c_3 : Ref sig .tc := ⟨.hbm, 268, rfl⟩
abbrev main_call8_v12 : Ref sig .tc := ⟨.hbm, 269, rfl⟩
abbrev main_call8_v13 : Ref sig .tc := ⟨.hbm, 270, rfl⟩
abbrev main_call8_cst : Ref sig .tc := ⟨.hbm, 271, rfl⟩
abbrev main_call8_v14 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_cst_43 : Ref sig .tc := ⟨.hbm, 278, rfl⟩
abbrev main_v137 : Ref sig .tc := ⟨.hbm, 279, rfl⟩
abbrev main_v138 : Ref sig .tc := ⟨.hbm, 280, rfl⟩
abbrev main_cst_44 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_cst_45 : Ref sig .tc := ⟨.hbm, 285, rfl⟩
abbrev main_v142 : Ref sig .tc := ⟨.hbm, 286, rfl⟩
abbrev main_v143 : Ref sig .tc := ⟨.hbm, 287, rfl⟩
abbrev main_v144 : Ref sig .tc := ⟨.hbm, 288, rfl⟩
abbrev main_cst_46 : Ref sig .tc := ⟨.hbm, 289, rfl⟩
abbrev main_v145 : Ref sig .tc := ⟨.hbm, 290, rfl⟩
abbrev main_v146 : Ref sig .tc := ⟨.hbm, 291, rfl⟩
abbrev main_v147 : Ref sig .tc := ⟨.hbm, 292, rfl⟩
abbrev main_c_47 : Ref sig .tc := ⟨.hbm, 293, rfl⟩
abbrev main_c_48 : Ref sig .tc := ⟨.hbm, 294, rfl⟩
abbrev main_call9_v0 : Ref sig .tc := ⟨.hbm, 295, rfl⟩
abbrev main_call9_v1 : Ref sig .tc := ⟨.hbm, 296, rfl⟩
abbrev main_call9_v2 : Ref sig .tc := ⟨.hbm, 297, rfl⟩
abbrev main_call9_v3 : Ref sig .tc := ⟨.hbm, 298, rfl⟩
abbrev main_call9_v4 : Ref sig .tc := ⟨.hbm, 299, rfl⟩
abbrev main_v148 : Ref sig .tc := ⟨.hbm, 300, rfl⟩
abbrev main_v149 : Ref sig .tc := ⟨.hbm, 301, rfl⟩
abbrev main_c_49 : Ref sig .tc := ⟨.hbm, 302, rfl⟩
abbrev main_c_50 : Ref sig .tc := ⟨.hbm, 303, rfl⟩
abbrev main_call10_v0 : Ref sig .tc := ⟨.hbm, 304, rfl⟩
abbrev main_call10_v1 : Ref sig .tc := ⟨.hbm, 305, rfl⟩
abbrev main_call10_v2 : Ref sig .tc := ⟨.hbm, 306, rfl⟩
abbrev main_call10_v3 : Ref sig .tc := ⟨.hbm, 307, rfl⟩
abbrev main_call10_v4 : Ref sig .tc := ⟨.hbm, 308, rfl⟩
abbrev main_v150 : Ref sig .tc := ⟨.hbm, 309, rfl⟩
abbrev main_v151 : Ref sig .tc := ⟨.hbm, 310, rfl⟩
abbrev main_c_51 : Ref sig .tc := ⟨.hbm, 311, rfl⟩
abbrev main_v152 : Ref sig .tc := ⟨.hbm, 312, rfl⟩
abbrev main_v153 : Ref sig .tc := ⟨.hbm, 313, rfl⟩
abbrev main_v154 : Ref sig .tc := ⟨.hbm, 314, rfl⟩
abbrev main_v155 : Ref sig .tc := ⟨.hbm, 315, rfl⟩
abbrev main_v156 : Ref sig .tc := ⟨.hbm, 316, rfl⟩
abbrev main_call11_c : Ref sig .tc := ⟨.hbm, 317, rfl⟩
abbrev main_call11_v0 : Ref sig .tc := ⟨.hbm, 318, rfl⟩
abbrev main_call11_v1 : Ref sig .tc := ⟨.hbm, 319, rfl⟩
abbrev main_call11_c_0 : Ref sig .tc := ⟨.hbm, 320, rfl⟩
abbrev main_call11_v2 : Ref sig .tc := ⟨.hbm, 321, rfl⟩
abbrev main_call11_v3 : Ref sig .tc := ⟨.hbm, 322, rfl⟩
abbrev main_call11_v4 : Ref sig .tc := ⟨.hbm, 323, rfl⟩
abbrev main_call11_v5 : Ref sig .tc := ⟨.hbm, 324, rfl⟩
abbrev main_call11_c_1 : Ref sig .tc := ⟨.hbm, 325, rfl⟩
abbrev main_call11_c_2 : Ref sig .tc := ⟨.hbm, 326, rfl⟩
abbrev main_call11_v6 : Ref sig .tc := ⟨.hbm, 327, rfl⟩
abbrev main_call11_v7 : Ref sig .tc := ⟨.hbm, 328, rfl⟩
abbrev main_call11_v8 : Ref sig .tc := ⟨.hbm, 329, rfl⟩
abbrev main_call11_v9 : Ref sig .tc := ⟨.hbm, 330, rfl⟩
abbrev main_call11_v10 : Ref sig .tc := ⟨.hbm, 331, rfl⟩
abbrev main_call11_v11 : Ref sig .tc := ⟨.hbm, 332, rfl⟩
abbrev main_call11_c_3 : Ref sig .tc := ⟨.hbm, 333, rfl⟩
abbrev main_call11_v12 : Ref sig .tc := ⟨.hbm, 334, rfl⟩
abbrev main_call11_v13 : Ref sig .tc := ⟨.hbm, 335, rfl⟩
abbrev main_call11_cst : Ref sig .tc := ⟨.hbm, 336, rfl⟩
abbrev main_call11_v14 : Ref sig .tc := ⟨.hbm, 337, rfl⟩
abbrev main_v157 : Ref sig .tc := ⟨.hbm, 338, rfl⟩
abbrev main_v158 : Ref sig .tc := ⟨.hbm, 339, rfl⟩
abbrev main_v159 : Ref sig .tc := ⟨.hbm, 340, rfl⟩
abbrev main_v160 : Ref sig .tc := ⟨.hbm, 341, rfl⟩
abbrev main_v161 : Ref sig .tc := ⟨.hbm, 342, rfl⟩
abbrev main_v162 : Ref sig .tc := ⟨.hbm, 343, rfl⟩
abbrev main_v163 : Ref sig .tc := ⟨.hbm, 344, rfl⟩
abbrev main_v164 : Ref sig .tc := ⟨.hbm, 345, rfl⟩
abbrev main_v165 : Ref sig .tc := ⟨.hbm, 346, rfl⟩
abbrev main_v166 : Ref sig .tc := ⟨.hbm, 347, rfl⟩
abbrev main_v167 : Ref sig .tc := ⟨.hbm, 348, rfl⟩
abbrev main_v168 : Ref sig .tc := ⟨.hbm, 349, rfl⟩
abbrev main_v169 : Ref sig .tc := ⟨.hbm, 350, rfl⟩
abbrev main_v170 : Ref sig .tc := ⟨.hbm, 351, rfl⟩
abbrev main_v171 : Ref sig .tc := ⟨.hbm, 352, rfl⟩
abbrev main_v172 : Ref sig .tc := ⟨.hbm, 353, rfl⟩
abbrev main_v173 : Ref sig .tc := ⟨.hbm, 354, rfl⟩
abbrev main_v174 : Ref sig .tc := ⟨.hbm, 355, rfl⟩
abbrev main_v175 : Ref sig .tc := ⟨.hbm, 356, rfl⟩
abbrev main_v176 : Ref sig .tc := ⟨.hbm, 357, rfl⟩
abbrev main_v177 : Ref sig .tc := ⟨.hbm, 358, rfl⟩
abbrev main_v178 : Ref sig .tc := ⟨.hbm, 359, rfl⟩
abbrev main_v179 : Ref sig .tc := ⟨.hbm, 360, rfl⟩
abbrev main_v180 : Ref sig .tc := ⟨.hbm, 361, rfl⟩
abbrev main_v181 : Ref sig .tc := ⟨.hbm, 362, rfl⟩

abbrev nD : Nat := 1
abbrev τ : Topo := Topo.v7x

variable {F : FTy → Type} [FloatOps F]
-- ==== Proof.Pixel.lean ====
/-
  ONE PIXEL OF THE WARP, as a function of a float instance's operations: the sampling position, the cell the position falls
  in, the four clamped corners, their weights and the weighted sum. An image row is a function of the row-major pixel number.
  The two programs' tile bodies are proved to store `pixel`; the reference is compared with it at the extended reals.
-/
module

public import Idealize.ShloMosaic.Lib.ValueIdx

@[expose] public section

noncomputable section

namespace Cert.Warp

open Idealize.ShloMosaic

variable {F : FTy → Type} [FloatOps F]

/-- A sampling position along one axis: the base `s` plus the displacement `a` times the scale `sc`. -/
def pos (sc s a : F .f32) : F .f32 := FloatOps.addf s (FloatOps.mulf a sc)

/-- The cell a position falls in: its integer part, less one where that rounded up. -/
def cell (v : F .f32) : BitVec 32 :=
  IntOp.subi (FloatOps.fptosi 32 v) (Scalar.select (FloatOps.cmpf .ogt (FloatOps.sitofp .f32 (FloatOps.fptosi 32 v : BitVec 32)) v) 1#32 0#32)

/-- The cell's number as a float. -/
def cellF (v : F .f32) : F .f32 := FloatOps.sitofp .f32 (cell v)

/-- How far into its cell a position lies. -/
def frac (v : F .f32) : F .f32 := FloatOps.subf v (cellF v)

/-- A pixel number clamped to an axis of 224 pixels. -/
def clamp (w : BitVec 32) : BitVec 32 := IntOp.minsi (IntOp.maxsi w 0#32) 223#32

/-- The weight of the cell's lower corner: zero unless that corner is on the axis. -/
def near (v : F .f32) : F .f32 :=
  Scalar.select (IntOp.andi (FloatOps.cmpf .oge (cellF v) (Scalar.ofBits .f32 0x00000000#32)) (FloatOps.cmpf .ole (cellF v) (Scalar.ofBits .f32 0x435F0000#32)))
    (FloatOps.subf (Scalar.ofBits .f32 0x3F800000#32) (frac v)) (Scalar.ofBits .f32 0x00000000#32)

/-- The weight of the cell's upper corner: zero unless that corner is on the axis. -/
def far (v : F .f32) : F .f32 :=
  Scalar.select (IntOp.andi (FloatOps.cmpf .oge (cellF v) (Scalar.ofBits .f32 0xBF800000#32)) (FloatOps.cmpf .ole (cellF v) (Scalar.ofBits .f32 0x435E0000#32)))
    (frac v) (Scalar.ofBits .f32 0x00000000#32)

/-- The clamped lower corner of the cell, and its clamped upper one. -/
def lo (v : F .f32) : BitVec 32 := clamp (cell v)
def hi (v : F .f32) : BitVec 32 := clamp (IntOp.addi (cell v) 1#32)

/-- The row-major number of the pixel at row `r`, column `c`. -/
def pixelNo (r c : BitVec 32) : BitVec 32 := IntOp.addi (IntOp.muli r 224#32) c

/-- The bilinear sample of the image row `img` at position `u` along the columns and `v` along the rows. -/
def sample (img : ℕ → F .f32) (u v : F .f32) : F .f32 :=
  FloatOps.addf
    (FloatOps.mulf (FloatOps.addf (FloatOps.mulf (img (pixelNo (lo v) (lo u)).toNat) (near u)) (FloatOps.mulf (img (pixelNo (lo v) (hi u)).toNat) (far u))) (near v))
    (FloatOps.mulf (FloatOps.addf (FloatOps.mulf (img (pixelNo (hi v) (lo u)).toNat) (near u)) (FloatOps.mulf (img (pixelNo (hi v) (hi u)).toNat) (far u))) (far v))

/-- The base position of column `x`, by the vector unit's operations; of row `y`, by the scalar unit's. -/
def baseX (sc : F .f32) (x : ℕ) : F .f32 :=
  FloatOps.subf (FloatOps.mulf (FloatOps.sitofp .f32 (BitVec.ofNat 32 x)) sc) (Scalar.ofBits .f32 0x3F000000#32)
def baseY (sc : F .f32) (y : ℕ) : F .f32 :=
  Scalar.subf (Scalar.mulf (Scalar.sitofp .f32 (BitVec.ofNat 32 y)) sc) (Scalar.ofBits .f32 0x3F000000#32)

/-- Pixel number `p` (row-major) of a warped image row: the sample at the pixel displaced by `a` along the columns and `b` along the rows. -/
def pixel (sc : F .f32) (img : ℕ → F .f32) (a b : F .f32) (p : ℕ) : F .f32 :=
  sample img (pos sc (baseX sc (p % 224)) a) (pos sc (baseY sc (p / 224)) b)

/-! ## The corners are on the image -/

/-- A clamped pixel number is at most 223. -/
theorem clamp_le (w : BitVec 32) : (clamp w).toNat ≤ 223 := by
  have h223 : (223#32 : BitVec 32).toInt = 223 := rfl
  have h0 : (0#32 : BitVec 32).toInt = 0 := rfl
  have e := BitVec.toInt_eq_toNat_cond w
  unfold clamp IntOp.minsi IntOp.maxsi
  by_cases h1 : (0#32).slt w = true
  · by_cases h2 : w.slt 223#32 = true
    · rw [if_pos h1, if_pos h2]
      rw [BitVec.slt_iff_toInt_lt, h0] at h1
      rw [BitVec.slt_iff_toInt_lt, h223] at h2
      split at e <;> omega
    · rw [if_pos h1, if_neg h2]; decide
  · rw [if_neg h1]; decide

/-- The number of a pixel whose row and column are clamped is below 50176. -/
theorem pixelNo_lt {r c : BitVec 32} (hr : r.toNat ≤ 223) (hc : c.toNat ≤ 223) : (pixelNo r c).toNat < 50176 := by
  unfold pixelNo IntOp.addi IntOp.muli
  rw [BitVec.toNat_add, BitVec.toNat_mul]
  have : (224#32 : BitVec 32).toNat = 224 := rfl
  rw [this, Nat.mod_eq_of_lt (by omega : r.toNat * 224 < 2 ^ 32), Nat.mod_eq_of_lt (by omega)]
  omega

theorem lo_le (v : F .f32) : (lo v).toNat ≤ 223 := clamp_le _
theorem hi_le (v : F .f32) : (hi v).toNat ≤ 223 := clamp_le _

end Cert.Warp

end
-- ==== Proof.KernelIdealValue.lean ====
/-
  WHAT A TILE COMPUTES: the sixteen values one inner trip stores are sixteen `Cert.Warp.sample`s, the columns' and rows' base
  positions are `Cert.Warp.baseX` / `baseY`, every gathered index is on the image, and the offsets in closed form.
-/
module

public import proofs.«01_k».proof.Proof.Gen.KernelIdeal.Skeleton
public import proofs.«01_k».proof.Proof.Pixel

@[expose] public section

noncomputable section

namespace Cert.KernelIdeal.Tile

open Cert.KernelIdeal Cert.KernelIdeal.Gen Cert.Warp
open Idealize.ShloMosaic Idealize.ShloMosaic.ValueIdx

variable {F : FTy → Type} [FloatOps F] [Named F]

/-- The scale the kernel multiplies pixel numbers and displacements by. -/
def scale : F .f32 := Named.named κ "scale" 0x3F8092F1#32

/-! ## The payloads, lane by lane -/

section Lanes

variable (a s b : Vec F S16 .f32) (t : F .f32) (l : S16.Idx)

theorem pay5_lane : k0_pay5 a s l = pos scale (s l) (a l) := rfl
theorem pay6_lane : k0_pay6 t b l = pos scale t (b l) := rfl
theorem pay7_lane : k0_pay7 a s l = cell (pos scale (s l) (a l)) := rfl
theorem pay8_lane : k0_pay8 a s l = cellF (pos scale (s l) (a l)) := rfl
theorem pay9_lane : k0_pay9 t b l = cell (pos scale t (b l)) := rfl
theorem pay10_lane : k0_pay10 t b l = cellF (pos scale t (b l)) := rfl
theorem pay11_lane : k0_pay11 a s l = frac (pos scale (s l) (a l)) := rfl
theorem pay12_lane : k0_pay12 t b l = frac (pos scale t (b l)) := rfl
theorem pay13_lane : k0_pay13 a s l = lo (pos scale (s l) (a l)) := rfl
theorem pay14_lane : k0_pay14 a s l = hi (pos scale (s l) (a l)) := rfl
theorem pay15_lane : k0_pay15 (k0_pay9 t b) l = hi (pos scale t (b l)) := rfl
theorem pay17_lane : k0_pay17 (k0_pay8 a s) (k0_pay11 a s) l = near (pos scale (s l) (a l)) := rfl
theorem pay18_lane : k0_pay18 (k0_pay8 a s) (k0_pay11 a s) l = far (pos scale (s l) (a l)) := rfl
theorem pay19_lane : k0_pay19 (k0_pay10 t b) (k0_pay12 t b) l = near (pos scale t (b l)) := rfl
theorem pay20_lane : k0_pay20 (k0_pay10 t b) (k0_pay12 t b) l = far (pos scale t (b l)) := rfl

/-- The four index vectors, lane by lane: the numbers of the four clamped corners. -/
theorem idx1_lane : addi (k0_pay21 (k0_pay9 t b)) (k0_pay13 a s) l = pixelNo (lo (pos scale t (b l))) (lo (pos scale (s l) (a l))) := rfl
theorem idx2_lane : addi (k0_pay21 (k0_pay9 t b)) (k0_pay14 a s) l = pixelNo (lo (pos scale t (b l))) (hi (pos scale (s l) (a l))) := rfl
theorem idx3_lane : addi (k0_pay3 (k0_pay15 (k0_pay9 t b)) k0_pay22) (k0_pay13 a s) l = pixelNo (hi (pos scale t (b l))) (lo (pos scale (s l) (a l))) := rfl
theorem idx4_lane : addi (k0_pay3 (k0_pay15 (k0_pay9 t b)) k0_pay22) (k0_pay14 a s) l = pixelNo (hi (pos scale t (b l))) (hi (pos scale (s l) (a l))) := rfl

end Lanes

/-- Index vectors every lane of which is a pixel's number address the image row. -/
theorem chk_of_lanes {v : IVec S16 32} (h : ∀ l, (v l).toNat < 50176) : ∀ a x, ((![v] : Fin 1 → IVec S16 32) a x).toNat < S50176.size a := by
  intro a x
  match a with
  | ⟨0, _⟩ => exact h x

theorem chk1 (a s b : Vec F S16 .f32) (t : F .f32) : k0_chk1 (addi (k0_pay21 (k0_pay9 t b)) (k0_pay13 a s)) :=
  chk_of_lanes fun l => by rw [idx1_lane]; exact pixelNo_lt (lo_le _) (lo_le _)
theorem chk2 (a s b : Vec F S16 .f32) (t : F .f32) : k0_chk2 (addi (k0_pay21 (k0_pay9 t b)) (k0_pay14 a s)) :=
  chk_of_lanes fun l => by rw [idx2_lane]; exact pixelNo_lt (lo_le _) (hi_le _)
theorem chk3 (a s b : Vec F S16 .f32) (t : F .f32) : k0_chk3 (addi (k0_pay3 (k0_pay15 (k0_pay9 t b)) k0_pay22) (k0_pay13 a s)) :=
  chk_of_lanes fun l => by rw [idx3_lane]; exact pixelNo_lt (hi_le _) (lo_le _)
theorem chk4 (a s b : Vec F S16 .f32) (t : F .f32) : k0_chk4 (addi (k0_pay3 (k0_pay15 (k0_pay9 t b)) k0_pay22) (k0_pay14 a s)) :=
  chk_of_lanes fun l => by rw [idx4_lane]; exact pixelNo_lt (hi_le _) (hi_le _)

/-- An image row as a function of the pixel number. -/
def row (f : S50176.Idx → F .f32) (n : ℕ) : F .f32 := f (ix1 (Fin.ofNat 50176 n))

/-- A gather reads, in each lane, the pixel whose number that lane holds. -/
theorem gather_lane (f : Vec F S50176 .f32) (v : IVec S16 32) (h : ∀ a x, ((![v] : Fin 1 → IVec S16 32) a x).toNat < S50176.size a) (l : S16.Idx) :
    (loadIdx f ![v] h : Vec F S16 .f32) l = row f (v l).toNat := by
  refine congrArg f (funext fun a => ?_)
  match a with
  | ⟨0, _⟩ => exact Fin.ext (Nat.mod_eq_of_lt (h 0 l)).symm

/-- The vector an inner trip stores, lane by lane: the sample of the row at the lane's position. -/
theorem stored_lane (f : Vec F S50176 .f32) (a s b : Vec F S16 .f32) (t : F .f32)
    (h1 : ∀ c x, ((![addi (k0_pay21 (k0_pay9 t b)) (k0_pay13 a s)] : Fin 1 → IVec S16 32) c x).toNat < S50176.size c)
    (h2 : ∀ c x, ((![addi (k0_pay21 (k0_pay9 t b)) (k0_pay14 a s)] : Fin 1 → IVec S16 32) c x).toNat < S50176.size c)
    (h3 : ∀ c x, ((![addi (k0_pay3 (k0_pay15 (k0_pay9 t b)) k0_pay22) (k0_pay13 a s)] : Fin 1 → IVec S16 32) c x).toNat < S50176.size c)
    (h4 : ∀ c x, ((![addi (k0_pay3 (k0_pay15 (k0_pay9 t b)) k0_pay22) (k0_pay14 a s)] : Fin 1 → IVec S16 32) c x).toNat < S50176.size c)
    (l : S16.Idx) :
    k0_pay4 (k0_pay17 (k0_pay8 a s) (k0_pay11 a s)) (k0_pay18 (k0_pay8 a s) (k0_pay11 a s))
        (k0_pay19 (k0_pay10 t b) (k0_pay12 t b)) (k0_pay20 (k0_pay10 t b) (k0_pay12 t b))
        (loadIdx f _ h1) (loadIdx f _ h2) (loadIdx f _ h3) (loadIdx f _ h4) l
      = sample (row f) (pos scale (s l) (a l)) (pos scale t (b l)) := by
  show FloatOps.addf
    (FloatOps.mulf (FloatOps.addf (FloatOps.mulf ((loadIdx f _ h1 : Vec F S16 .f32) l) (k0_pay17 (k0_pay8 a s) (k0_pay11 a s) l))
        (FloatOps.mulf ((loadIdx f _ h2 : Vec F S16 .f32) l) (k0_pay18 (k0_pay8 a s) (k0_pay11 a s) l))) (k0_pay19 (k0_pay10 t b) (k0_pay12 t b) l))
    (FloatOps.mulf (FloatOps.addf (FloatOps.mulf ((loadIdx f _ h3 : Vec F S16 .f32) l) (k0_pay17 (k0_pay8 a s) (k0_pay11 a s) l))
        (FloatOps.mulf ((loadIdx f _ h4 : Vec F S16 .f32) l) (k0_pay18 (k0_pay8 a s) (k0_pay11 a s) l))) (k0_pay20 (k0_pay10 t b) (k0_pay12 t b) l)) = _
  rw [gather_lane, gather_lane, gather_lane, gather_lane, idx1_lane, idx2_lane, idx3_lane, idx4_lane, pay17_lane, pay18_lane, pay19_lane, pay20_lane]
  rfl

/-! ## The base positions -/

/-- Lane `l` of the column bases' trip `k`: the base of column `16 k + l`. -/
theorem pay1_lane (k : Fin k0_t1_loop.trips) (l : S16.Idx) : (k0_pay1 k : Vec F S16 .f32) l = baseX scale (16 * k.val + (l 0).val) := by
  have hl : (l 0).val < 16 := (l 0).isLt
  have hk : k.val < 14 := Nat.lt_of_lt_of_le k.isLt k0_t1_abs.2.1
  have e : IntOp.addi (BitVec.ofNat 32 (0 * 16 + (l 0).val)) (Scalar.muli (Scf.iv 0#32 1#32 k.val) 16#32) = BitVec.ofNat 32 (16 * k.val + (l 0).val) := by
    unfold IntOp.addi Scalar.muli IntOp.muli Scf.iv
    apply BitVec.eq_of_toNat_eq
    simp only [BitVec.toNat_add, BitVec.toNat_mul, BitVec.toNat_ofNat]
    omega
  show FloatOps.subf (FloatOps.mulf (FloatOps.sitofp .f32 (IntOp.addi (BitVec.ofNat 32 (0 * 16 + (l 0).val)) (Scalar.muli (Scf.iv 0#32 1#32 k.val) 16#32))) scale) _ = _
  rw [e]; rfl

/-- Trip `k` of a strip `h`: the base of row `8 h + k`. -/
theorem pay2_eq (h : Fin k0_t3_loop.trips) (k : Fin k0_t4_loop.trips) : (k0_pay2 h k : F .f32) = baseY scale (8 * h.val + k.val) := by
  have hk : k.val < 8 := Nat.lt_of_lt_of_le k.isLt k0_t4_abs.2.1
  have hh : h.val < 28 := Nat.lt_of_lt_of_le h.isLt k0_t3_abs.2.1
  have e : Scalar.addi (Scalar.muli (Scf.iv 0#32 1#32 h.val) 8#32) (Scf.iv 0#32 1#32 k.val) = BitVec.ofNat 32 (8 * h.val + k.val) := by
    unfold Scalar.addi IntOp.addi Scalar.muli IntOp.muli Scf.iv
    apply BitVec.eq_of_toNat_eq
    simp only [BitVec.toNat_add, BitVec.toNat_mul, BitVec.toNat_ofNat]
    omega
  show Scalar.subf (Scalar.mulf (Scalar.sitofp .f32 (Scalar.addi (Scalar.muli (Scf.iv 0#32 1#32 h.val) 8#32) (Scf.iv 0#32 1#32 k.val))) scale) _ = _
  rw [e]; rfl

/-! ## Offsets -/

/-- The unit a tile works on in its trip `k`. -/
def unit (i : grid0.Coords) (k : ℕ) : ℕ := 48 * (i 1).val + 24 * (i 0).val + k

/-- The displacement rows a unit reads are its batch entry's: unit number divided by 192. -/
theorem off3_eq : ∀ (i : grid0.Coords) (k : Fin k0_t2_loop.trips) (h : Fin k0_t3_loop.trips),
    k0_off3 i k h = ![(48 * (i 1).val + 24 * (i 0).val + k.val) / 192, 1792 * h.val] := by decide +kernel

end Cert.KernelIdeal.Tile

end
-- ==== Proof.KernelIdealTile.lean ====
/-
  THE TILE'S BODY, at a symbolic SparseCore and tile. Five nested loops: the column bases are filled; then, unit by unit, an
  image row is fetched and, strip by strip of eight image rows, the strip's displacements are fetched, sixteen pixels at a time
  are sampled into the strip's result, and the result is written out. Each loop's invariant says what is already right: the
  first entries of the column bases, of the strip's result, and the finished part of the tile's rows of the result.
-/
module

public import proofs.«01_k».proof.Proof.KernelIdealValue
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic

@[expose] public section

noncomputable section

namespace Cert.KernelIdeal.Tile

open Cert.KernelIdeal Cert.KernelIdeal.Gen Cert.Warp

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' cells and the launch's buffers are as the launch theorem asks. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds library, the left factor; the transfers' counters are the right. -/
abbrev EH : Emb UH (MT nD τ sig (HIx 1) (Elt F) ℕ UU ℕ) := embL

/-! ## The tile's memrefs -/

abbrev imgV : Memref sig .scVector .hbm S768x50176 .f32 := Memref.whole main_v0_scv
abbrev dxV : Memref sig .scVector .hbm S4x50176 .f32 := Memref.whole main_v1_scv
abbrev dyV : Memref sig .scVector .hbm S4x50176 .f32 := Memref.whole main_v2_scv
abbrev outV : Memref sig .scVector .hbm S768x50176 .f32 := Memref.whole main_v3_scv
abbrev rowS : Memref sig .scVector .vmem S50176 .f32 := Memref.whole cc0_scratch0
abbrev dxS : Memref sig .scVector .vmem S1792 .f32 := Memref.whole cc0_scratch1
abbrev dyS : Memref sig .scVector .vmem S1792 .f32 := Memref.whole cc0_scratch2
abbrev resS : Memref sig .scVector .vmem S1792 .f32 := Memref.whole cc0_scratch3
abbrev colS : Memref sig .scVector .vmem S224 .f32 := Memref.whole cc0_scratch4

/-- The tile's thread. -/
abbrev thr (d : Dev nD) (L : grid0.Coords) : Thread nD τ := V d ((L 0).castLE hcore0) ((L 1).castLE hsub0)

variable [FloatOps F] [Named F]

/-! ## What the tile computes -/

/-- The column bases. -/
def cols : S224.Idx → F .f32 := fun j => baseX scale (j 0).val

/-- Strip `h` of a unit's result: entry `j` is pixel `1792 h + j` of the image row `f` warped by the strip's displacements. -/
def strip (f : S50176.Idx → F .f32) (a b : S1792.Idx → F .f32) (h : ℕ) : S1792.Idx → F .f32 :=
  fun j => sample (row f) (pos scale (baseX scale ((j 0).val % 224)) (a j)) (pos scale (baseY scale (8 * h + (j 0).val / 224)) (b j))

/-- Image row `u`, and strip `h` of the displacement row of `u`'s batch entry (192 image rows make a batch entry). -/
def rowOf (img : S768x50176.Idx → F .f32) (u : ℕ) : S50176.Idx → F .f32 := fun p => img (ix2 (Fin.ofNat 768 u) (p 0))
def stripOf (dx : S4x50176.Idx → F .f32) (u h : ℕ) : S1792.Idx → F .f32 :=
  fun j => dx (ix2 (Fin.ofNat 4 (u / 192)) (Fin.ofNat 50176 (1792 * h + (j 0).val)))

/-- The result: entry `(u, p)` is pixel `p` of image row `u` warped by the displacements of batch entry `u / 192`. -/
def result (img : S768x50176.Idx → F .f32) (dx dy : S4x50176.Idx → F .f32) : S768x50176.Idx → F .f32 := fun j =>
  pixel scale (row (rowOf img (j 0).val)) (dx (ix2 (Fin.ofNat 4 ((j 0).val / 192)) (j 1))) (dy (ix2 (Fin.ofNat 4 ((j 0).val / 192)) (j 1))) (j 1).val

/-- A strip of the result is the strip of its image row and displacements. -/
theorem strip_result (img : S768x50176.Idx → F .f32) (dx dy : S4x50176.Idx → F .f32) (h : ℕ) (j : S768x50176.Idx) (x : S1792.Idx)
    (hx : (j 1).val = 1792 * h + (x 0).val) :
    strip (rowOf img (j 0).val) (stripOf dx (j 0).val h) (stripOf dy (j 0).val h) h x = result img dx dy j := by
  have e1 : Fin.ofNat 50176 (1792 * h + (x 0).val) = j 1 := Fin.ext (by
    show (1792 * h + (x 0).val) % 50176 = (j 1).val
    rw [← hx]; exact Nat.mod_eq_of_lt (j 1).isLt)
  unfold strip result pixel stripOf
  rw [e1, show (j 1).val % 224 = (x 0).val % 224 by omega, show (j 1).val / 224 = 8 * h + (x 0).val / 224 by omega]

/-- The first of a tile's 24 rows, and the tile's rows of the result. -/
def base (L : grid0.Coords) : ℕ := 48 * (L 1).val + 24 * (L 0).val
def tileRows (L : grid0.Coords) : Finset S768x50176.Idx := Finset.univ.filter fun j => base L ≤ (j 0).val ∧ (j 0).val < base L + 24

/-- The tile's rows below `u`, and the first `n` entries of row `u`, are the result's. -/
def Done (L : grid0.Coords) (img : S768x50176.Idx → F .f32) (dx dy : S4x50176.Idx → F .f32) (u n : ℕ) (o : S768x50176.Idx → F .f32) : Prop :=
  ∀ j, base L ≤ (j 0).val → ((j 0).val < u ∨ ((j 0).val = u ∧ (j 1).val < n)) → o j = result img dx dy j

/-- A row done up to its end is the next row done up to its start. -/
theorem Done.next {L : grid0.Coords} {img : S768x50176.Idx → F .f32} {dx dy : S4x50176.Idx → F .f32} {u : ℕ} {o : S768x50176.Idx → F .f32}
    (h : Done L img dx dy u 50176 o) : Done L img dx dy (u + 1) 0 o := fun j hb hj =>
  h j hb (by
    have h1 : (j 1).val < 50176 := (j 1).isLt
    omega)

/-! ## Sixteen entries stored -/

section Store

variable {κ : Kind} {sp : Space} {n : ℕ} (v : View sig κ sp ⟨1, ![n]⟩ .f32)

/-- A store of sixteen entries at `o` that are `G`'s, over contents that are `G`'s below `o`: the contents are `G`'s below `o + 16`. -/
theorem store_right (off : Fin 1 → ℕ) (inb : ∀ a, off a + S16.size a ≤ (⟨1, ![n]⟩ : Shape).size a) (f : v.ty.Contents (Elt F)) (w : S16.Idx → F .f32)
    (o : ℕ) (ho : off = ![o]) (G : (⟨1, ![n]⟩ : Shape).Idx → F .f32) (hf : ∀ j, (j 0).val < o → v.read (Elt F) f j = G j)
    (hw : ∀ (l : S16.Idx) (j : (⟨1, ![n]⟩ : Shape).Idx), (j 0).val = o + (l 0).val → w l = G j) (j : (⟨1, ![n]⟩ : Shape).Idx) (hj : (j 0).val < o + 16) :
    v.read (Elt F) ((v.slice (Rect.unit (s := ⟨1, ![n]⟩) off S16.size inb)).write (Elt F) f w Finset.univ) j = G j := by
  subst ho
  rw [← View.writes_singleton]
  by_cases h : (j 0).val < o
  · rw [View.read_writes_cons_miss_of_axis v f _ _ j 0 o 16 rfl rfl rfl (.inl h)]
    exact hf j h
  · refine (View.read_writes_cons_hit_of_coords v f (Rect.unit (s := ⟨1, ![n]⟩) ![o] S16.size inb) w []
      (ix1 (⟨(j 0).val - o, by omega⟩ : Fin 16)) j fun a => ?_).trans ?_
    · match a with
      | ⟨0, _⟩ => show (j 0).val = o + 1 * ((j 0).val - o); omega
    · exact hw _ j (by show (j 0).val = o + ((j 0).val - o); omega)

/-- A load of sixteen entries at `o` reads, in lane `l`, entry `o + l`. -/
theorem load_lane (off : Fin 1 → ℕ) (inb : ∀ a, off a + S16.size a ≤ (⟨1, ![n]⟩ : Shape).size a) (f : v.ty.Contents (Elt F))
    (o : ℕ) (ho : off = ![o]) (l : S16.Idx) (j : (⟨1, ![n]⟩ : Shape).Idx) (hj : (j 0).val = o + (l 0).val) :
    v.readAt (Elt F) (Rect.unit (s := ⟨1, ![n]⟩) off S16.size inb).toLoadRect f l = v.read (Elt F) f j := by
  subst ho
  rw [View.readAt_apply]
  refine congrArg (v.read (Elt F) f) (funext fun a => Fin.ext ?_)
  match a with
  | ⟨0, _⟩ => show o + 1 * (l 0).val = (j 0).val; omega

/-- A row of `n` elements read through a squeezed slice of a matrix: entry `j` is the matrix's at row `u`, column `o + j`. -/
theorem read_slice_row {R C m : ℕ} (M : Memref sig κ sp ⟨2, ![R, C]⟩ .f32) (off : Fin 2 → ℕ)
    (inb : ∀ a, off a + (⟨2, ![1, m]⟩ : Shape).size a ≤ (⟨2, ![R, C]⟩ : Shape).size a)
    (hq : (⟨2, ![1, m]⟩ : Shape).Squeezes ⟨1, ![m]⟩) (f : M.view.ty.Contents (Elt F)) (u o : ℕ) (ho : off = ![u, o])
    (j : (⟨1, ![m]⟩ : Shape).Idx) (i : (⟨2, ![R, C]⟩ : Shape).Idx) (h0 : (i 0).val = u) (h1 : (i 1).val = o + (j 0).val) :
    ((M.slice (Rect.unit (s := ⟨2, ![R, C]⟩) off (⟨2, ![1, m]⟩ : Shape).size inb) (fun _ => rfl)).squeeze ⟨1, ![m]⟩ hq).view.read (Elt F) f j
      = M.view.read (Elt F) f i := by
  subst ho
  refine (congrFun (Memref.read_squeeze_slice M _ _ hq hq.numel_eq f) j).trans ?_
  refine (shapeCast_apply _ _ j (ix2 (0 : Fin 1) (j 0)) ?_).trans ?_
  · rw [Shape.rowMajor_val_two, Shape.rowMajor_val_one]; show 0 * m + (j 0).val = (j 0).val; omega
  · refine (View.readAt_apply _ f _).trans ?_
    refine congrArg (M.view.read (Elt F) f) (funext fun a => Fin.ext ?_)
    match a with
    | ⟨0, _⟩ => show u + 1 * 0 = (i 0).val; omega
    | ⟨1, _⟩ => show o + 1 * (j 0).val = (i 1).val; omega

/-- A row of `m` elements written through a squeezed slice of a matrix, at row `u` and column `o`: what the matrix holds there … -/
theorem write_slice_row {R C m : ℕ} (M : Memref sig κ sp ⟨2, ![R, C]⟩ .f32) (off : Fin 2 → ℕ)
    (inb : ∀ a, off a + (⟨2, ![1, m]⟩ : Shape).size a ≤ (⟨2, ![R, C]⟩ : Shape).size a)
    (hq : (⟨2, ![1, m]⟩ : Shape).Squeezes ⟨1, ![m]⟩) (f : M.view.ty.Contents (Elt F)) (w : (⟨1, ![m]⟩ : Shape).Idx → F .f32) (u o : ℕ) (ho : off = ![u, o])
    (j : (⟨1, ![m]⟩ : Shape).Idx) (i : (⟨2, ![R, C]⟩ : Shape).Idx) (h0 : (i 0).val = u) (h1 : (i 1).val = o + (j 0).val) :
    M.view.read (Elt F) (((M.slice (Rect.unit (s := ⟨2, ![R, C]⟩) off (⟨2, ![1, m]⟩ : Shape).size inb) (fun _ => rfl)).squeeze ⟨1, ![m]⟩ hq).view.write (Elt F) f w Finset.univ) i
      = w j := by
  subst ho
  refine (congrArg (fun g => M.view.read (Elt F) g i) (View.write_reshape_univ (M.view.slice (Rect.unit (s := ⟨2, ![R, C]⟩) ![u, o] (⟨2, ![1, m]⟩ : Shape).size inb)) hq.numel_eq f w)).trans ?_
  rw [← View.writes_singleton]
  refine (View.read_writes_cons_hit_of_coords M.view f (Rect.unit (s := ⟨2, ![R, C]⟩) ![u, o] (⟨2, ![1, m]⟩ : Shape).size inb) _ []
    (ix2 (0 : Fin 1) (j 0)) i fun a => ?_).trans ?_
  · match a with
    | ⟨0, _⟩ => show (i 0).val = u + 1 * 0; omega
    | ⟨1, _⟩ => show (i 1).val = o + 1 * (j 0).val; omega
  · refine congrArg w ((Equiv.symm_apply_eq _).mpr (Shape.reshapeEquiv_eq_of_rowMajor _ ?_).symm)
    rw [Shape.rowMajor_val_two, Shape.rowMajor_val_one]; show 0 * m + (j 0).val = (j 0).val; omega

/-- … and what it holds elsewhere. -/
theorem write_slice_row_miss {R C m : ℕ} (M : Memref sig κ sp ⟨2, ![R, C]⟩ .f32) (off : Fin 2 → ℕ)
    (inb : ∀ a, off a + (⟨2, ![1, m]⟩ : Shape).size a ≤ (⟨2, ![R, C]⟩ : Shape).size a)
    (hq : (⟨2, ![1, m]⟩ : Shape).Squeezes ⟨1, ![m]⟩) (f : M.view.ty.Contents (Elt F)) (w : (⟨1, ![m]⟩ : Shape).Idx → F .f32) (u o : ℕ) (ho : off = ![u, o])
    (i : (⟨2, ![R, C]⟩ : Shape).Idx) (h : (i 0).val ≠ u ∨ (i 1).val < o ∨ o + m ≤ (i 1).val) :
    M.view.read (Elt F) (((M.slice (Rect.unit (s := ⟨2, ![R, C]⟩) off (⟨2, ![1, m]⟩ : Shape).size inb) (fun _ => rfl)).squeeze ⟨1, ![m]⟩ hq).view.write (Elt F) f w Finset.univ) i
      = M.view.read (Elt F) f i := by
  subst ho
  refine (congrArg (fun g => M.view.read (Elt F) g i) (View.write_reshape_univ (M.view.slice (Rect.unit (s := ⟨2, ![R, C]⟩) ![u, o] (⟨2, ![1, m]⟩ : Shape).size inb)) hq.numel_eq f w)).trans ?_
  rw [← View.writes_singleton]
  by_cases h0 : (i 0).val = u
  · exact View.read_writes_cons_miss_of_axis M.view f _ [] i 1 o m rfl rfl rfl (h.resolve_left fun h => h h0)
  · exact View.read_writes_cons_miss_of_axis M.view f _ [] i 0 u 1 rfl rfl rfl (by omega)

end Store

section Trips

variable (d : Dev nD) (L : grid0.Coords)

omit [FloatOps F] [Named F] in
/-- A gather reads the image row's buffer as it is. -/
theorem read_row (f : S50176.Idx → F .f32) : (rowS.access (.whole S50176)).read (Elt F) f = f := by
  funext x
  exact congrArg f (Rect.emb_whole_apply S50176 x)

/-! ## The column bases -/

/-- One trip of the first loop stores sixteen column bases. -/
theorem t1_trip (k : Fin k0_t1_loop.trips) (acc : BitVec 32) (f : S224.Idx → F .f32) (hf : ∀ j, (j 0).val < 16 * k.val → f j = cols j) :
    (colS.view.loc (thr d L) ↦{fullShare} f : sProp 𝕄)
      ⊢ wp frame (wpE (defs₀ (F := F)) 𝒱₀ (thr d L) none) Set.univ
          (k0_t1_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3 k acc)
          fun _ => iprop(∃ f' : S224.Idx → F .f32, ⌜∀ j, (j 0).val < 16 * (k.val + 1) → f' j = cols j⌝ ∗ (colS.view.loc (thr d L) ↦{fullShare} f')) := by
  unfold k0_t1_body
  simp only [Prog.lift, Prog.bind_op, Prog.bind_ret, Prog.pure_eq_ret]
  iintro H
  iapply (wp_load 𝒱₀ (thr d L) none Set.univ (m := colS) (S := Finset.univ) (Finset.subset_univ _)) $$ H; iintro H
  iapply (wp_store 𝒱₀ (thr d L) none Set.univ (m := colS) (r := Rect.unit (s := S224) (k0_off1 k) S16.size (k0_off1_inb k)) (Mk := Finset.univ) (S := Finset.univ) (Finset.subset_univ _)) $$ H; iintro H
  rw [wp_ret]; imodintro
  iexists _; isplitr
  rotate_left
  · iexact H
  ipureintro
  intro j hj
  exact store_right (F := F) colS.view _ _ f _ (16 * k.val) (k0_off1_eq k) cols hf
    (fun l i hi => by rw [pay1_lane]; show _ = baseX scale (i 0).val; rw [hi]) j (by omega)

/-! ## Sixteen pixels -/

/-- One trip of the innermost loop samples sixteen pixels of the strip. -/
theorem t5_trip (k3 : Fin k0_t3_loop.trips) (k4 : Fin k0_t4_loop.trips) (k5 : Fin k0_t5_loop.trips) (acc : BitVec 32)
    (f : S50176.Idx → F .f32) (a b r : S1792.Idx → F .f32) (hr : ∀ j, (j 0).val < 224 * k4.val + 16 * k5.val → r j = strip f a b k3.val j) :
    iprop((rowS.view.loc (thr d L) ↦{fullShare} f) ∗ (dxS.view.loc (thr d L) ↦{fullShare} a) ∗ (dyS.view.loc (thr d L) ↦{fullShare} b)
        ∗ (colS.view.loc (thr d L) ↦{fullShare} cols (F := F)) ∗ (resS.view.loc (thr d L) ↦{fullShare} r) : sProp 𝕄)
      ⊢ wp frame (wpE (defs₀ (F := F)) 𝒱₀ (thr d L) none) Set.univ
          (k0_t5_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3 k3 k4 (Scf.iv 0#32 1#32 k4) k5 acc)
          fun _ => iprop((rowS.view.loc (thr d L) ↦{fullShare} f) ∗ (dxS.view.loc (thr d L) ↦{fullShare} a) ∗ (dyS.view.loc (thr d L) ↦{fullShare} b)
            ∗ (colS.view.loc (thr d L) ↦{fullShare} cols (F := F))
            ∗ ∃ r' : S1792.Idx → F .f32, ⌜∀ j, (j 0).val < 224 * k4.val + 16 * (k5.val + 1) → r' j = strip f a b k3.val j⌝ ∗ (resS.view.loc (thr d L) ↦{fullShare} r')) := by
  unfold k0_t5_body
  rw [k0_part1_eq_skeleton, k0_part2_eq_skeleton]
  unfold k0_part1_skel k0_part2_skel
  simp only [Prog.lift, Prog.bind_op, Prog.bind_ret, Prog.pure_eq_ret]
  iintro ⟨Hf, Ha, Hb, Hc, Hr⟩
  iapply (wp_load 𝒱₀ (thr d L) none Set.univ (m := dxS) (S := Finset.univ) (Finset.subset_univ _)) $$ Ha; iintro Ha
  iapply (wp_load 𝒱₀ (thr d L) none Set.univ (m := dyS) (S := Finset.univ) (Finset.subset_univ _)) $$ Hb; iintro Hb
  iapply (wp_load 𝒱₀ (thr d L) none Set.univ (m := colS) (S := Finset.univ) (Finset.subset_univ _)) $$ Hc; iintro Hc
  rw [wp_assume_of _ _ _ _ (chk1 _ _ _ _)]
  iapply (SparseCore.wp_vectorLoadIdx 𝒱₀ (thr d L) none Set.univ (base := rowS) (S := Finset.univ) (q := fullShare) (Finset.subset_univ _)) $$ Hf; iintro Hf
  rw [wp_assume_of _ _ _ _ (chk2 _ _ _ _)]
  iapply (SparseCore.wp_vectorLoadIdx 𝒱₀ (thr d L) none Set.univ (base := rowS) (S := Finset.univ) (q := fullShare) (Finset.subset_univ _)) $$ Hf; iintro Hf
  rw [wp_assume_of _ _ _ _ (chk3 _ _ _ _)]
  iapply (SparseCore.wp_vectorLoadIdx 𝒱₀ (thr d L) none Set.univ (base := rowS) (S := Finset.univ) (q := fullShare) (Finset.subset_univ _)) $$ Hf; iintro Hf
  rw [wp_assume_of _ _ _ _ (chk4 _ _ _ _)]
  iapply (SparseCore.wp_vectorLoadIdx 𝒱₀ (thr d L) none Set.univ (base := rowS) (S := Finset.univ) (q := fullShare) (Finset.subset_univ _)) $$ Hf; iintro Hf
  iapply (wp_load 𝒱₀ (thr d L) none Set.univ (m := resS) (S := Finset.univ) (Finset.subset_univ _)) $$ Hr; iintro Hr
  iapply (wp_store 𝒱₀ (thr d L) none Set.univ (m := resS) (r := Rect.unit (s := S1792) (k0_off6 k4 k5) S16.size (k0_off6_inb k4 k5)) (Mk := Finset.univ) (S := Finset.univ) (Finset.subset_univ _)) $$ Hr; iintro Hr
  rw [wp_ret]; imodintro
  isplitl [Hf]; · iexact Hf
  isplitl [Ha]; · iexact Ha
  isplitl [Hb]; · iexact Hb
  isplitl [Hc]; · iexact Hc
  iexists _; isplitr
  rotate_left
  · iexact Hr
  ipureintro
  intro j hj
  refine store_right (F := F) resS.view _ _ r _ (224 * k4.val + 16 * k5.val) (k0_off6_eq k4 k5) (strip f a b k3.val) hr
    (fun l i hi => ?_) j (by omega)
  have h5 : k5.val < 14 := Nat.lt_of_lt_of_le k5.isLt k0_t5_abs.2.1
  have hl : (l 0).val < 16 := (l 0).isLt
  have e5 := load_lane (F := F) dxS.view _ (k0_off4_inb k4 k5) a _ (k0_off4_eq k4 k5) l i hi
  have e6 := load_lane (F := F) dyS.view _ (k0_off4_inb k4 k5) b _ (k0_off4_eq k4 k5) l i hi
  have e7 := load_lane (F := F) colS.view _ (k0_off5_inb k5) (cols (F := F)) _ (k0_off5_eq k5) l
    (ix1 (⟨16 * k5.val + (l 0).val, by omega⟩ : Fin 224)) rfl
  refine (stored_lane _ _ _ _ _ _ _ _ _ l).trans ?_
  rw [e5, e6, e7, pay2_eq, read_row]
  show sample (row f) (pos scale (baseX scale (16 * k5.val + (l 0).val)) (a i)) (pos scale (baseY scale (8 * k3.val + k4.val)) (b i)) = _
  unfold strip
  rw [show (i 0).val % 224 = 16 * k5.val + (l 0).val by omega, show (i 0).val / 224 = k4.val by omega]

/-! ## Strips -/

/-- What the innermost loops hold: an image row, a strip's displacements, the column bases, and a result whose first `n` entries are the strip's. -/
def stripInv (f : S50176.Idx → F .f32) (a b : S1792.Idx → F .f32) (h n : ℕ) : sProp 𝕄 :=
  iprop((rowS.view.loc (thr d L) ↦{fullShare} f) ∗ (dxS.view.loc (thr d L) ↦{fullShare} a) ∗ (dyS.view.loc (thr d L) ↦{fullShare} b)
    ∗ (colS.view.loc (thr d L) ↦{fullShare} cols (F := F))
    ∗ ∃ r : S1792.Idx → F .f32, ⌜∀ j, (j 0).val < n → r j = strip f a b h j⌝ ∗ (resS.view.loc (thr d L) ↦{fullShare} r))

theorem t4_trips : k0_t4_loop.trips = 8 := by decide
theorem t5_trips : k0_t5_loop.trips = 14 := by decide
theorem t3_trips : k0_t3_loop.trips = 28 := by decide
theorem t2_trips : k0_t2_loop.trips = 24 := by decide
theorem t1_trips : k0_t1_loop.trips = 14 := by decide

/-- One trip of the fourth loop samples one image row of the strip. -/
theorem t4_trip (k3 : Fin k0_t3_loop.trips) (k4 : Fin k0_t4_loop.trips) (acc : BitVec 32) (f : S50176.Idx → F .f32) (a b : S1792.Idx → F .f32) :
    stripInv d L f a b k3.val (224 * k4.val)
      ⊢ wp frame (wpE (defs₀ (F := F)) 𝒱₀ (thr d L) none) Set.univ
          (k0_t4_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3 k3 k4 acc)
          fun _ => stripInv d L f a b k3.val (224 * (k4.val + 1)) := by
  unfold k0_t4_body
  dsimp only
  iintro H
  sl_for (fun n (_ : BitVec 32) => stripInv d L f a b k3.val (224 * k4.val + 16 * n)) $$ [H]
  case region =>
    intro k acc
    unfold stripInv
    iintro ⟨Hf, Ha, Hb, Hc, %r, %hr, Hr⟩
    iapply (t5_trip d L k3 k4 k acc f a b r hr) $$ [Hf Ha Hb Hc Hr]
    isplitl [Hf]; · iexact Hf
    isplitl [Ha]; · iexact Ha
    isplitl [Hb]; · iexact Hb
    isplitl [Hc]; · iexact Hc
    iexact Hr
  · iexact H
  iintro %_ HI
  sl_step
  rw [show 224 * k4.val + 16 * Scf.trips k0_t5_loop.lb k0_t5_loop.ub k0_t5_loop.st = 224 * (k4.val + 1) from
    (congrArg (224 * k4.val + 16 * ·) t5_trips).trans (by omega)]
  iexact HI

/-! ## A transfer and its wait -/

/-- A local transfer waited for at once: the source is read, the destination written, the semaphore's counter is back at zero. -/
theorem copy_wait {sp sp' : Space} {s : Shape} {src : Memref sig (thr d L).2.kind sp s .f32} {dst : Memref sig (thr d L).2.kind sp' s .f32} {sm : DmaSem sig}
    {hs : src.view.WordExact} {hd : dst.view.WordExact} {hs' : src.view.WordExact} {hd' : dst.view.WordExact}
    {ht : DmaTarget.Typed (nD := nD) sp (.dma sm) (.here dst)} {α : Type} {Q : α → sProp 𝕄}
    {k : PUnit → Prog (TpuEff nD τ sig (Elt F) Λ₀ (thr d L).2) α} {q : PosShare TreeShare} {fs : Buf (Elt F) (src.view.loc (thr d L))}
    {fd : Buf (Elt F) (dst.view.loc (thr d L))} {Ss : Finset (Idx (src.view.loc (thr d L)))} {Sd : Finset (Idx (dst.view.loc (thr d L)))}
    {O : CellTallies nD τ sig (HIx 1)} {W : Waits sig (HIx 1)}
    (hn : 0 < s.numel) (hSs : src.view.set ⊆ Ss) (hSd : dst.view.set ⊆ Sd) :
    iprop(Transfers.MayWaits (thr d L) (none : HIx 1) O ∗ (src.view.loc (thr d L) ↦[Ss]{q} fs) ∗ (dst.view.loc (thr d L) ↦[Sd]{fullShare} fd)
        ∗ semVal (thr d L, .dma sm) 0 ∗ ∃ W', ⌜∀ p ∈ W', p ∈ W ∨ p.2 = none⌝ ∗ owes (thr d L) O W')
      ⊢ iprop((iprop((src.view.loc (thr d L) ↦[Ss]{q} fs) ∗ (dst.view.loc (thr d L) ↦[Sd]{fullShare} dst.view.write (Elt F) fd (src.view.read (Elt F) fs) Finset.univ)
              ∗ semVal (thr d L, .dma sm) 0 ∗ ∃ W', ⌜∀ p ∈ W', p ∈ W ∨ p.2 = none⌝ ∗ owes (thr d L) O W')
            -∗ wp frame (wpE (defs₀ (F := F)) 𝒱₀ (thr d L) none) Set.univ (k ⟨⟩) Q)
          -∗ wp frame (wpE (defs₀ (F := F)) 𝒱₀ (thr d L) none) Set.univ
            (.op (.enqueueDma src (.here dst) (.dma sm) hs hd ht) fun _ => .op (.waitDma2 sm src dst hs' hd') k) Q) := by
  iintro ⟨#Hmw, Hs, Hd, Hsem, %W', %hW', HO⟩ Hk
  ihave Hs' := (pointsTo_split_subset hSs).1 $$ Hs
  icases Hs' with ⟨Hs, Hrest⟩
  iapply (Transfers.wp_dmaLocal countersEmb 𝒱₀ (thr d L) none (q := q) (fs := fs) (fd := fd) (none : HIx 1) (dst.view.amount (.dma sm)) rfl
    (View.amount_pos _ _ hn) hSd) $$ [Hs Hd Hsem]
  · isplitl [Hs]; · iexact Hs
    isplitl [Hd]; · iexact Hd
    iexact Hsem
  iintro Hfl
  iapply (Transfers.wp_waitLocalO countersEmb 𝒱₀ (thr d L) none (none : HIx 1) (N := dst.view.amount (.dma sm)) rfl) $$ [Hfl HO]
  · isplitl [Hfl]; · iexact Hfl
    isplitl [HO]; · iexact HO
    iapply (Transfers.MayWaits.elim (SemLoc.dma sm)); iexact Hmw
  iintro ⟨⟨Hd, Hs⟩, Hsem, HO⟩
  iapply Hk $$ [Hd Hs Hrest Hsem HO]
  isplitl [Hs Hrest]
  · iapply (pointsTo_split_subset hSs).2
    isplitl [Hs]; · iexact Hs
    iexact Hrest
  isplitl [Hd]; · iexact Hd
  isplitl [Hsem]; · iexact Hsem
  iexists (insert (SemLoc.dma sm, (none : HIx 1)) W'); isplitr
  · ipureintro; intro p hp
    rcases Finset.mem_insert.mp hp with hp | hp
    · exact .inr (hp ▸ rfl)
    · exact hW' p hp
  · iexact HO

/-! ## One strip of one unit -/

/-- What the third loop fetches of a matrix of displacements: the strip of the unit's batch entry. -/
theorem fetched_strip (M : Memref sig .scVector .hbm S4x50176 .f32) (k2 : Fin k0_t2_loop.trips) (k3 : Fin k0_t3_loop.trips) (f : M.view.ty.Contents (Elt F)) :
    ((M.slice (Rect.unit (s := S4x50176) (k0_off3 L k2 k3) S1x1792.size (k0_off3_inb L k2 k3)) (fun _ => rfl)).squeeze S1792 squeezes_S1x1792_S1792).view.read (Elt F) f
      = stripOf (M.view.read (Elt F) f) (base L + k2.val) k3.val := by
  have h2 : k2.val < 24 := lt_of_lt_of_eq k2.isLt t2_trips
  have h3 : k3.val < 28 := lt_of_lt_of_eq k3.isLt t3_trips
  have h0 : (L 0).val < 2 := (L 0).isLt
  have h1 : (L 1).val < 16 := (L 1).isLt
  funext j
  have hj : (j 0).val < 1792 := (j 0).isLt
  refine read_slice_row M _ _ _ f _ _ (off3_eq L k2 k3) j _ ?_ ?_
  · show (base L + k2.val) / 192 % 4 = _
    unfold base; omega
  · show (1792 * k3.val + (j 0).val) % 50176 = _
    omega

/-- What the second loop fetches of the images: the unit's image row. -/
theorem fetched_row (M : Memref sig .scVector .hbm S768x50176 .f32) (k2 : Fin k0_t2_loop.trips) (f : M.view.ty.Contents (Elt F)) :
    ((M.slice (Rect.unit (s := S768x50176) (k0_off2 L k2) S1x50176.size (k0_off2_inb L k2)) (fun _ => rfl)).squeeze S50176 squeezes_S1x50176_S50176).view.read (Elt F) f
      = rowOf (M.view.read (Elt F) f) (base L + k2.val) := by
  have h2 : k2.val < 24 := lt_of_lt_of_eq k2.isLt t2_trips
  have h0 : (L 0).val < 2 := (L 0).isLt
  have h1 : (L 1).val < 16 := (L 1).isLt
  funext j
  refine read_slice_row M _ _ _ f _ _ (k0_off2_eq L k2) j _ ?_ ?_
  · show (base L + k2.val) % 768 = _
    unfold base; omega
  · show (j 0).val = 0 + (j 0).val
    omega

/-- Writing the unit's strip of the result extends what is done by the strip. -/
theorem Done.write {k2 : Fin k0_t2_loop.trips} {k3 : Fin k0_t3_loop.trips} {img : S768x50176.Idx → F .f32} {dx dy : S4x50176.Idx → F .f32} {o : S768x50176.Idx → F .f32}
    (h : Done L img dx dy (base L + k2.val) (1792 * k3.val) o) {w : S1792.Idx → F .f32}
    (hw : ∀ x, w x = strip (rowOf img (base L + k2.val)) (stripOf dx (base L + k2.val) k3.val) (stripOf dy (base L + k2.val) k3.val) k3.val x) :
    Done L img dx dy (base L + k2.val) (1792 * (k3.val + 1))
      (((outV.slice (Rect.unit (s := S768x50176) (k0_off7 L k2 k3) S1x1792.size (k0_off7_inb L k2 k3)) (fun _ => rfl)).squeeze S1792 squeezes_S1x1792_S1792).view.write (Elt F) o w Finset.univ) := by
  intro j hb hj
  by_cases hu : (j 0).val = base L + k2.val ∧ 1792 * k3.val ≤ (j 1).val
  · have hx : (j 1).val - 1792 * k3.val < 1792 := by omega
    have h1 : (j 1).val = 1792 * k3.val + (ix1 (⟨(j 1).val - 1792 * k3.val, hx⟩ : Fin 1792) 0).val := by
      show _ = 1792 * k3.val + ((j 1).val - 1792 * k3.val); omega
    refine (write_slice_row outV _ _ _ o w _ _ (k0_off7_eq L k2 k3) (ix1 (⟨_, hx⟩ : Fin 1792)) j ?_ h1).trans ((hw _).trans ?_)
    · rw [hu.1]; unfold base; rfl
    · rw [← hu.1]; exact strip_result img dx dy k3.val j _ h1
  · refine (write_slice_row_miss outV _ _ _ o w _ _ (k0_off7_eq L k2 k3) j ?_).trans (h j hb ?_)
    · unfold base at *; omega
    · omega

/-- What the third loop holds: the displacements and the images' row, the strip buffers, the semaphores of its transfers, and the result done up to its strip. -/
def unitInv (O : CellTallies nD τ sig (HIx 1)) (W : Waits sig (HIx 1)) (q : PosShare TreeShare) (img : S768x50176.Idx → F .f32) (dx dy : S4x50176.Idx → F .f32)
    (k n : ℕ) : sProp 𝕄 :=
  iprop(Transfers.MayWaits (thr d L) (none : HIx 1) O ∗ (dxV.view.loc (thr d L) ↦{q} dx) ∗ (dyV.view.loc (thr d L) ↦{q} dy)
    ∗ (rowS.view.loc (thr d L) ↦{fullShare} rowOf img (base L + k)) ∗ (colS.view.loc (thr d L) ↦{fullShare} cols (F := F))
    ∗ (∃ a : S1792.Idx → F .f32, dxS.view.loc (thr d L) ↦{fullShare} a) ∗ (∃ b : S1792.Idx → F .f32, dyS.view.loc (thr d L) ↦{fullShare} b)
    ∗ (∃ r : S1792.Idx → F .f32, resS.view.loc (thr d L) ↦{fullShare} r)
    ∗ semVal (thr d L, .dma cc0_scoped1.sem) 0 ∗ semVal (thr d L, .dma cc0_scoped2.sem) 0 ∗ semVal (thr d L, .dma cc0_scoped3.sem) 0
    ∗ (∃ o : S768x50176.Idx → F .f32, ⌜Done L img dx dy (base L + k) (1792 * n) o⌝ ∗ (outV.view.loc (thr d L) ↦[tileRows L]{fullShare} o))
    ∗ ∃ W', ⌜∀ p ∈ W', p ∈ W ∨ p.2 = none⌝ ∗ owes (thr d L) O W')

omit [FloatOps F] [Named F] in
/-- The piece of the result a strip is written to lies in the tile's rows. -/
theorem strip_rows (k2 : Fin k0_t2_loop.trips) (k3 : Fin k0_t3_loop.trips) :
    ((outV.slice (Rect.unit (s := S768x50176) (k0_off7 L k2 k3) S1x1792.size (k0_off7_inb L k2 k3)) (fun _ => rfl)).squeeze S1792 squeezes_S1x1792_S1792).view.set ⊆ tileRows L := by
  have h2 : k2.val < 24 := lt_of_lt_of_eq k2.isLt t2_trips
  show ((outV.view.slice _).reshape _ _).set ⊆ _
  rw [View.set_reshape, View.set_slice_whole]
  intro j hj
  have h := (Rect.mem_set_unit.mp hj) 0
  rw [k0_off7_eq] at h
  refine Finset.mem_filter.mpr ⟨Finset.mem_univ _, ?_⟩
  have h' : 48 * (L 1).val + 24 * (L 0).val + k2.val ≤ (j 0).val ∧ (j 0).val < 48 * (L 1).val + 24 * (L 0).val + k2.val + 1 := h
  unfold base; omega

/-- One trip of the third loop fetches the strip's displacements, samples its eight image rows and writes them out. -/
theorem t3_trip (O : CellTallies nD τ sig (HIx 1)) (W : Waits sig (HIx 1)) (q : PosShare TreeShare) (img : S768x50176.Idx → F .f32) (dx dy : S4x50176.Idx → F .f32)
    (k2 : Fin k0_t2_loop.trips) (k3 : Fin k0_t3_loop.trips) (acc : BitVec 32) :
    unitInv d L O W q img dx dy k2.val k3.val
      ⊢ wp frame (wpE (defs₀ (F := F)) 𝒱₀ (thr d L) none) Set.univ
          (k0_t3_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3 k2 k3 acc)
          fun _ => unitInv d L O W q img dx dy k2.val (k3.val + 1) := by
  unfold k0_t3_body
  simp only [Prog.lift, Prog.bind_op, Prog.bind_ret, Prog.pure_eq_ret]
  unfold unitInv
  iintro ⟨#Hmw, Hdx, Hdy, Hrow, Hcol, ⟨%a, Ha⟩, ⟨%b, Hb⟩, ⟨%r, Hr⟩, H1, H2, H3, ⟨%o, %ho, Ho⟩, HO⟩
  iapply (copy_wait d L (q := q) (fs := dx) (fd := a) (Ss := Finset.univ) (Sd := Finset.univ) (O := O) (W := W) (by decide) (Finset.subset_univ _) (Finset.subset_univ _)) $$ [Hdx Ha H1 HO]
  · isplitr; · iexact Hmw
    isplitl [Hdx]; · iexact Hdx
    isplitl [Ha]; · iexact Ha
    isplitl [H1]; · iexact H1
    iexact HO
  iintro ⟨Hdx, Ha, H1, HO⟩
  iapply (copy_wait d L (q := q) (fs := dy) (fd := b) (Ss := Finset.univ) (Sd := Finset.univ) (O := O) (W := W) (by decide) (Finset.subset_univ _) (Finset.subset_univ _)) $$ [Hdy Hb H2 HO]
  · isplitr; · iexact Hmw
    isplitl [Hdy]; · iexact Hdy
    isplitl [Hb]; · iexact Hb
    isplitl [H2]; · iexact H2
    iexact HO
  iintro ⟨Hdy, Hb, H2, HO⟩
  rw [View.write_whole_univ, View.write_whole_univ, fetched_strip, fetched_strip]
  sl_for (fun n (_ : BitVec 32) => stripInv d L (rowOf img (base L + k2.val)) (stripOf dx (base L + k2.val) k3.val) (stripOf dy (base L + k2.val) k3.val) k3.val (224 * n)) $$ [Hrow Ha Hb Hcol Hr]
  case region =>
    intro k acc
    exact t4_trip d L k3 k acc _ _ _
  · unfold stripInv
    isplitl [Hrow]; · iexact Hrow
    isplitl [Ha]; · iexact Ha
    isplitl [Hb]; · iexact Hb
    isplitl [Hcol]; · iexact Hcol
    iexists r
    isplitr
    · ipureintro; intro j hj; exact absurd hj (by omega)
    iexact Hr
  iintro %_ HI
  unfold stripInv
  icases HI with ⟨Hrow, Ha, Hb, Hcol, %r', %hr', Hr⟩
  iapply (copy_wait d L (q := fullShare) (fs := r')
    (dst := (outV.slice (Rect.unit (s := S768x50176) (k0_off7 L k2 k3) S1x1792.size (k0_off7_inb L k2 k3)) (fun _ => rfl)).squeeze S1792 squeezes_S1x1792_S1792)
    (fd := o) (Ss := Finset.univ) (Sd := tileRows L) (O := O) (W := W) (by decide) (Finset.subset_univ _) (strip_rows L k2 k3)) $$ [Hr Ho H3 HO]
  · isplitr; · iexact Hmw
    isplitl [Hr]; · iexact Hr
    isplitl [Ho]; · iexact Ho
    isplitl [H3]; · iexact H3
    iexact HO
  iintro ⟨Hr, Ho, H3, HO⟩
  sl_step
  isplitr; · iexact Hmw
  isplitl [Hdx]; · iexact Hdx
  isplitl [Hdy]; · iexact Hdy
  isplitl [Hrow]; · iexact Hrow
  isplitl [Hcol]; · iexact Hcol
  isplitl [Ha]; · iexists _; iexact Ha
  isplitl [Hb]; · iexists _; iexact Hb
  isplitl [Hr]; · iexists _; iexact Hr
  isplitl [H1]; · iexact H1
  isplitl [H2]; · iexact H2
  isplitl [H3]; · iexact H3
  isplitl [Ho]
  · iexists _; isplitr
    · ipureintro
      exact ho.write L (w := r') fun x => hr' x (by
        have hx : (x 0).val < 1792 := (x 0).isLt
        exact lt_of_lt_of_eq hx (congrArg (224 * ·) t4_trips).symm)
    · iexact Ho
  iexact HO

/-! ## One unit -/

/-- What the second loop holds: the three operands, the tile's buffers, its semaphores, and the rows of the result done. -/
def tileInv (O : CellTallies nD τ sig (HIx 1)) (W : Waits sig (HIx 1)) (q : PosShare TreeShare) (img : S768x50176.Idx → F .f32) (dx dy : S4x50176.Idx → F .f32)
    (n : ℕ) : sProp 𝕄 :=
  iprop(Transfers.MayWaits (thr d L) (none : HIx 1) O ∗ (imgV.view.loc (thr d L) ↦{q} img) ∗ (dxV.view.loc (thr d L) ↦{q} dx) ∗ (dyV.view.loc (thr d L) ↦{q} dy)
    ∗ (∃ f : S50176.Idx → F .f32, rowS.view.loc (thr d L) ↦{fullShare} f) ∗ (colS.view.loc (thr d L) ↦{fullShare} cols (F := F))
    ∗ (∃ a : S1792.Idx → F .f32, dxS.view.loc (thr d L) ↦{fullShare} a) ∗ (∃ b : S1792.Idx → F .f32, dyS.view.loc (thr d L) ↦{fullShare} b)
    ∗ (∃ r : S1792.Idx → F .f32, resS.view.loc (thr d L) ↦{fullShare} r)
    ∗ semVal (thr d L, .dma cc0_scoped0.sem) 0
    ∗ semVal (thr d L, .dma cc0_scoped1.sem) 0 ∗ semVal (thr d L, .dma cc0_scoped2.sem) 0 ∗ semVal (thr d L, .dma cc0_scoped3.sem) 0
    ∗ (∃ o : S768x50176.Idx → F .f32, ⌜Done L img dx dy (base L + n) 0 o⌝ ∗ (outV.view.loc (thr d L) ↦[tileRows L]{fullShare} o))
    ∗ ∃ W', ⌜∀ p ∈ W', p ∈ W ∨ p.2 = none⌝ ∗ owes (thr d L) O W')

/-- One trip of the second loop fetches the unit's image row and warps it, strip by strip. -/
theorem t2_trip (O : CellTallies nD τ sig (HIx 1)) (W : Waits sig (HIx 1)) (q : PosShare TreeShare) (img : S768x50176.Idx → F .f32) (dx dy : S4x50176.Idx → F .f32)
    (k2 : Fin k0_t2_loop.trips) (acc : BitVec 32) :
    tileInv d L O W q img dx dy k2.val
      ⊢ wp frame (wpE (defs₀ (F := F)) 𝒱₀ (thr d L) none) Set.univ
          (k0_t2_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3 k2 acc)
          fun _ => tileInv d L O W q img dx dy (k2.val + 1) := by
  unfold k0_t2_body
  simp only [Prog.lift, Prog.bind_op, Prog.bind_ret, Prog.pure_eq_ret]
  unfold tileInv
  iintro ⟨#Hmw, Himg, Hdx, Hdy, ⟨%f, Hrow⟩, Hcol, Ha, Hb, Hr, H0, H1, H2, H3, Ho, HO⟩
  iapply (copy_wait d L (q := q) (fs := img) (fd := f) (Ss := Finset.univ) (Sd := Finset.univ) (O := O) (W := W) (by decide) (Finset.subset_univ _) (Finset.subset_univ _)) $$ [Himg Hrow H0 HO]
  · isplitr; · iexact Hmw
    isplitl [Himg]; · iexact Himg
    isplitl [Hrow]; · iexact Hrow
    isplitl [H0]; · iexact H0
    iexact HO
  iintro ⟨Himg, Hrow, H0, HO⟩
  rw [View.write_whole_univ, fetched_row]
  sl_for (fun n (_ : BitVec 32) => unitInv d L O W q img dx dy k2.val n) $$ [Hdx Hdy Hrow Hcol Ha Hb Hr H1 H2 H3 Ho HO]
  case region =>
    intro k acc
    exact t3_trip d L O W q img dx dy k2 k acc
  · unfold unitInv
    isplitr; · iexact Hmw
    isplitl [Hdx]; · iexact Hdx
    isplitl [Hdy]; · iexact Hdy
    isplitl [Hrow]; · iexact Hrow
    isplitl [Hcol]; · iexact Hcol
    isplitl [Ha]; · iexact Ha
    isplitl [Hb]; · iexact Hb
    isplitl [Hr]; · iexact Hr
    isplitl [H1]; · iexact H1
    isplitl [H2]; · iexact H2
    isplitl [H3]; · iexact H3
    isplitl [Ho]; · iexact Ho
    iexact HO
  iintro %_ HI
  unfold unitInv
  icases HI with ⟨-, Hdx, Hdy, Hrow, Hcol, Ha, Hb, Hr, H1, H2, H3, ⟨%o, %ho, Ho⟩, HO⟩
  sl_step
  isplitr; · iexact Hmw
  isplitl [Himg]; · iexact Himg
  isplitl [Hdx]; · iexact Hdx
  isplitl [Hdy]; · iexact Hdy
  isplitl [Hrow]; · iexists _; iexact Hrow
  isplitl [Hcol]; · iexact Hcol
  isplitl [Ha]; · iexact Ha
  isplitl [Hb]; · iexact Hb
  isplitl [Hr]; · iexact Hr
  isplitl [H0]; · iexact H0
  isplitl [H1]; · iexact H1
  isplitl [H2]; · iexact H2
  isplitl [H3]; · iexact H3
  isplitl [Ho]
  · iexists o; isplitr
    · ipureintro
      have e : 1792 * Scf.trips k0_t3_loop.lb k0_t3_loop.ub k0_t3_loop.st = 50176 := congrArg (1792 * ·) t3_trips
      rw [e] at ho
      exact ho.next
    · iexact Ho
  iexact HO

/-! ## The tile's semaphores and buffers -/

omit [FloatOps F] [Named F] in
theorem cell_mem (sm : DmaSem sig) (h : (SemLoc.dma sm : SemLoc sig).isScoped .scVector = true) : ((thr d L, .dma sm) : GSem nD τ sig) ∈ ownCells (thr d L) :=
  mem_ownCells.mpr ⟨rfl, h⟩

omit [FloatOps F] [Named F] in
theorem cell_ne {a b : DmaSem sig} (h : a ≠ b) : ((thr d L, .dma a) : GSem nD τ sig) ≠ (thr d L, .dma b) :=
  fun e => h (SemLoc.dma.inj (Prod.mk.inj e).2)

omit [FloatOps F] [Named F] in
/-- The tile's semaphores: its four transfers', and the rest. -/
theorem tile_sems : ∃ R : sProp 𝕄, (ownSems0 (thr d L) : sProp 𝕄)
    = iprop(semVal (thr d L, .dma cc0_scoped0.sem) 0 ∗ semVal (thr d L, .dma cc0_scoped1.sem) 0 ∗ semVal (thr d L, .dma cc0_scoped2.sem) 0
        ∗ semVal (thr d L, .dma cc0_scoped3.sem) 0 ∗ R) := by
  apply Exists.intro
  unfold SparseCore.Cfg.ownSems0
  rw [SparseCore.bigSep_erase' (cell_mem d L cc0_scoped0.sem (by decide)),
    SparseCore.bigSep_erase' (Finset.mem_erase.mpr ⟨cell_ne d L (by decide), cell_mem d L cc0_scoped1.sem (by decide)⟩),
    SparseCore.bigSep_erase' (Finset.mem_erase.mpr ⟨cell_ne d L (by decide), Finset.mem_erase.mpr ⟨cell_ne d L (by decide), cell_mem d L cc0_scoped2.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped3.sem (by decide)⟩⟩⟩)]

omit [FloatOps F] [Named F] in
theorem buf_mem (r : Ref sig .scVector) (h : ((thr d L).2.devRef r).owner = .proc (thr d L).2) : (thr d L).2.devRef r ∈ ownRefs (thr d L).2 :=
  SparseCore.Cfg.mem_ownRefs_of_owner h

omit [FloatOps F] [Named F] in
theorem buf_ne {a b : Ref sig .scVector} (h : a ≠ b) : (thr d L).2.devRef a ≠ (thr d L).2.devRef b := fun e => h (Proc.devRef_injective _ e)

omit [FloatOps F] [Named F] in
/-- The tile's buffers: its five scratch buffers, each at some contents, and the rest. -/
theorem tile_bufs : ∃ R : sProp 𝕄, (ownBufs (thr d L) : sProp 𝕄)
    = iprop((∃ f : S50176.Idx → F .f32, rowS.view.loc (thr d L) ↦{fullShare} f) ∗ (∃ a : S1792.Idx → F .f32, dxS.view.loc (thr d L) ↦{fullShare} a)
        ∗ (∃ b : S1792.Idx → F .f32, dyS.view.loc (thr d L) ↦{fullShare} b) ∗ (∃ r : S1792.Idx → F .f32, resS.view.loc (thr d L) ↦{fullShare} r)
        ∗ (∃ c : S224.Idx → F .f32, colS.view.loc (thr d L) ↦{fullShare} c) ∗ R) := by
  apply Exists.intro
  unfold SparseCore.Cfg.ownBufs
  refine (SparseCore.bigSep_erase' (buf_mem d L cc0_scratch0 rfl)).trans ?_
  rw [SparseCore.bigSep_erase' (Finset.mem_erase.mpr ⟨buf_ne d L (by decide), buf_mem d L cc0_scratch1 rfl⟩),
    SparseCore.bigSep_erase' (Finset.mem_erase.mpr ⟨buf_ne d L (by decide), Finset.mem_erase.mpr ⟨buf_ne d L (by decide), buf_mem d L cc0_scratch2 rfl⟩⟩),
    SparseCore.bigSep_erase' (Finset.mem_erase.mpr ⟨buf_ne d L (by decide), Finset.mem_erase.mpr ⟨buf_ne d L (by decide),
      Finset.mem_erase.mpr ⟨buf_ne d L (by decide), buf_mem d L cc0_scratch3 rfl⟩⟩⟩),
    SparseCore.bigSep_erase' (Finset.mem_erase.mpr ⟨buf_ne d L (by decide), Finset.mem_erase.mpr ⟨buf_ne d L (by decide), Finset.mem_erase.mpr ⟨buf_ne d L (by decide),
      Finset.mem_erase.mpr ⟨buf_ne d L (by decide), buf_mem d L cc0_scratch4 rfl⟩⟩⟩⟩)]
  rfl

/-! ## The body -/

/-- What a tile is handed: shares of the three operands, and its rows of the result at the contents `o`. -/
def tilePts (q : PosShare TreeShare) (img : S768x50176.Idx → F .f32) (dx dy : S4x50176.Idx → F .f32) (o : S768x50176.Idx → F .f32) : sProp 𝕄 :=
  iprop((imgV.view.loc (thr d L) ↦{q} img) ∗ (dxV.view.loc (thr d L) ↦{q} dx) ∗ (dyV.view.loc (thr d L) ↦{q} dy) ∗ (outV.view.loc (thr d L) ↦[tileRows L]{fullShare} o))

/-- The task on one tile writes the result into its rows, and leaves everything else as it was. -/
theorem tile_body (O : CellTallies nD τ sig (HIx 1)) (W : Waits sig (HIx 1)) (hO : ∀ g, O g none = 0) (q : PosShare TreeShare)
    (img : S768x50176.Idx → F .f32) (dx dy : S4x50176.Idx → F .f32) (o : S768x50176.Idx → F .f32) :
    iprop(levAts (K (F := F)).L (K (F := F)).lev ∗ emp ∗ tilePts d L q img dx dy o
        ∗ scopedBufs (thr d L) ∗ scopedSems0 (thr d L) ∗ owes (thr d L) O W)
      ⊢ wp frame (wpE (defs₀ (F := F)) 𝒱₀ (thr d L) none) Set.univ
          (cc0__warp_body L imgV (Memref.isWhole_whole _) dxV (Memref.isWhole_whole _) dyV (Memref.isWhole_whole _) outV (Memref.isWhole_whole _)
            rowS (Memref.isWhole_whole _) dxS (Memref.isWhole_whole _) dyS (Memref.isWhole_whole _) resS (Memref.isWhole_whole _) colS (Memref.isWhole_whole _)
            cc0_scoped0 cc0_scoped1 cc0_scoped2 cc0_scoped3)
          fun _ => iprop(tilePts d L q img dx dy (result img dx dy) ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RS, hRS⟩ := tile_sems (F := F) d L
  obtain ⟨RB, hRB⟩ := tile_bufs (F := F) d L
  rw [(K (F := F)).scopedBufs_V launchFacts d ((L 0).castLE hcore0) ((L 1).castLE hsub0),
    SparseCore.Cfg.scopedSems0_V (Val := Elt F) d ((L 0).castLE hcore0) ((L 1).castLE hsub0), hRS, hRB, cc0__warp_body_eq_skeleton]
  unfold cc0__warp_body_skel tilePts
  iintro ⟨#Hlv, -, ⟨Himg, Hdx, Hdy, Ho⟩, ⟨Hrow, Ha, Hb, Hr, ⟨%c, Hcol⟩, HRB⟩, ⟨H0, H1, H2, H3, HRS⟩, HO⟩
  ihave Hmw := (show levAts (K (F := F)).L (K (F := F)).lev ⊢ Transfers.MayWaits (thr d L) (none : HIx 1) O from
    (K (F := F)).mayWaits_none (thr := thr d L) hO) $$ Hlv
  sl_for (fun n (_ : BitVec 32) => iprop(∃ c : S224.Idx → F .f32, ⌜∀ j, (j 0).val < 16 * n → c j = cols j⌝ ∗ (colS.view.loc (thr d L) ↦{fullShare} c))) $$ [Hcol]
  case region =>
    intro k acc
    iintro ⟨%f, %hf, H⟩
    iapply (t1_trip d L k acc f hf)
    iexact H
  · iexists c; isplitr
    · ipureintro; intro j hj; exact absurd hj (by omega)
    · iexact Hcol
  iintro %_ ⟨%c', %hc', Hcol⟩
  have ec : c' = cols := funext fun j => hc' j (by
    have hj : (j 0).val < 224 := (j 0).isLt
    exact lt_of_lt_of_eq hj (congrArg (16 * ·) t1_trips).symm)
  subst ec
  sl_for (fun n (_ : BitVec 32) => tileInv d L O W q img dx dy n) $$ [Hmw Himg Hdx Hdy Hrow Hcol Ha Hb Hr H0 H1 H2 H3 Ho HO]
  case region =>
    intro k acc
    exact t2_trip d L O W q img dx dy k acc
  · unfold tileInv
    isplitl [Hmw]; · iexact Hmw
    isplitl [Himg]; · iexact Himg
    isplitl [Hdx]; · iexact Hdx
    isplitl [Hdy]; · iexact Hdy
    isplitl [Hrow]; · iexact Hrow
    isplitl [Hcol]; · iexact Hcol
    isplitl [Ha]; · iexact Ha
    isplitl [Hb]; · iexact Hb
    isplitl [Hr]; · iexact Hr
    isplitl [H0]; · iexact H0
    isplitl [H1]; · iexact H1
    isplitl [H2]; · iexact H2
    isplitl [H3]; · iexact H3
    isplitl [Ho]
    · iexists o; isplitr
      · ipureintro; intro j hb hj; exact absurd hj (by omega)
      · iexact Ho
    iexists W; isplitr
    · ipureintro; intro p hp; exact .inl hp
    · iexact HO
  iintro %_ HI
  unfold tileInv
  icases HI with ⟨-, Himg, Hdx, Hdy, Hrow, Hcol, Ha, Hb, Hr, H0, H1, H2, H3, ⟨%o', %ho', Ho⟩, %W', %hW', HO⟩
  sl_step
  isplitl [Himg Hdx Hdy Ho]
  · isplitl [Himg]; · iexact Himg
    isplitl [Hdx]; · iexact Hdx
    isplitl [Hdy]; · iexact Hdy
    iapply (Entails.of_eq (pointsTo_congr (f := o') (g := result img dx dy) fun j hj => ho' j (Finset.mem_filter.mp hj).2.1 (.inl
      (lt_of_lt_of_eq (Finset.mem_filter.mp hj).2.2 (congrArg (base L + ·) t2_trips).symm))))
    iexact Ho
  isplitl [Hrow Ha Hb Hr Hcol HRB]
  · isplitl [Hrow]; · iexact Hrow
    isplitl [Ha]; · iexact Ha
    isplitl [Hb]; · iexact Hb
    isplitl [Hr]; · iexact Hr
    isplitl [Hcol]; · iexists _; iexact Hcol
    iexact HRB
  isplitl [H0 H1 H2 H3 HRS]
  · isplitl [H0]; · iexact H0
    isplitl [H1]; · iexact H1
    isplitl [H2]; · iexact H2
    isplitl [H3]; · iexact H3
    iexact HRS
  iexists W'; isplitr
  · ipureintro; intro p hp; exact (hW' p hp).imp_right .inl
  · iexact HO

end Trips

end Cert.KernelIdeal.Tile

end
-- ==== Proof.KernelIdealRun.lean ====
/-
  THE WHOLE PROGRAM. @main reshapes its three arguments into matrices, runs the kernel on every tile, and reshapes the kernel's
  result. The call deals each of the 32 tiles a share of the three matrices and its own 24 rows of the result (their sets are
  disjoint and cover the 768 rows), and the tiles bring the rows back at the result's entries. Every execution ends with the result
  array at `resultOf` of the arguments, the arguments unchanged and every semaphore at zero.
-/
module

public import proofs.«01_k».proof.Proof.KernelIdealTile
public import Idealize.ShloMosaic.Lib.ShareLeaves

@[expose] public section

noncomputable section

namespace Cert.KernelIdeal.Tile

open Cert.KernelIdeal Cert.KernelIdeal.Gen Cert.Warp

open Idealize.ShloMosaic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves
open Idealize.ShloMosaic.StableHlo (held wp_hlo_within)
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The program's value -/

/-- The matrices the call takes: the arguments, reshaped. -/
def imgOf (d : Dev nD) : S768x50176.Idx → F .f32 := shapeCast S768x50176 (m ((SparseCore.T d).loc main_arg0)) shapeCasts_S4x192x224x224_S768x50176
def dxOf (d : Dev nD) : S4x50176.Idx → F .f32 := shapeCast S4x50176 (m ((SparseCore.T d).loc main_arg1)) shapeCasts_S4x1x224x224_S4x50176
def dyOf (d : Dev nD) : S4x50176.Idx → F .f32 := shapeCast S4x50176 (m ((SparseCore.T d).loc main_arg2)) shapeCasts_S4x1x224x224_S4x50176

/-- What the program returns: the kernel's result, reshaped. -/
def resultOf (d : Dev nD) : S4x192x224x224.Idx → F .f32 :=
  shapeCast S4x192x224x224 (result (imgOf m d) (dxOf m d) (dyOf m d)) shapeCasts_S768x50176_S4x192x224x224

/-! ## The tiles' parts of the operands -/

/-- The tile `i` of SparseCore `c`. -/
def tileAt (c : Fin (grid0.bound 0)) (i : Fin (grid0.bound 1)) : grid0.Coords :=
  fun | 0 => c | 1 => i | ⟨_ + 2, h⟩ => absurd h (Nat.not_lt.2 (Nat.le_add_left _ _))

/-- The tiles in the order in which they take their rows: tile `i` of SparseCore `c` is number `2 i + c` of 32. -/
def order : Fin 2 × Fin 16 ≃ Fin (2 ^ 5) where
  toFun x := ⟨2 * x.2.val + x.1.val, by have := x.1.isLt; have := x.2.isLt; omega⟩
  invFun w := (⟨w.val % 2, by omega⟩, ⟨w.val / 2, by have := w.isLt; omega⟩)
  left_inv x := by
    have h := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

/-- A tile's share of what all tiles read. -/
def share (L : grid0.Coords) : PosShare TreeShare := leaf 5 fullShare (order (L 0, L 1))

/-- What a tile is handed, the result at the contents `o`. -/
def dealt (d : Dev nD) (o : S768x50176.Idx → F .f32) (L : grid0.Coords) : sProp 𝕄 := tilePts d L (share L) (imgOf m d) (dxOf m d) (dyOf m d) o

instance dealt_storable (d : Dev nD) (o : S768x50176.Idx → F .f32) (L : grid0.Coords) : BI.Storable (upEmb : UEmb _ 𝕄) (dealt m d o L) := by
  unfold dealt tilePts; infer_instance

/-- What the tiles of a SparseCore are handed. -/
def dealtTo (d : Dev nD) (o : S768x50176.Idx → F .f32) (c : Fin 2) : sProp 𝕄 := bigSep Finset.univ fun i : Fin 16 => dealt m d o (tileAt c i)

instance dealtTo_storable (d : Dev nD) (o : S768x50176.Idx → F .f32) (c : Fin 2) : BI.Storable (upEmb : UEmb _ 𝕄) (dealtTo m d o c) := by
  unfold dealtTo
  haveI := fun i : Fin 16 => dealt_storable m d o (tileAt c i)
  infer_instance

omit [FloatOps F] [Named F] in
/-- A points-to is the tiles' shares of it. -/
theorem shares_eq (ℓ : Loc nD τ sig) (f : Buf (Elt F) ℓ) :
    (ℓ ↦{fullShare} f : sProp 𝕄) = bigSep Finset.univ fun c : Fin 2 => bigSep Finset.univ fun i : Fin 16 => ℓ ↦{share (tileAt c i)} f := by
  rw [pointsTo_leaves Finset.univ f 5 fullShare, bigSep_univ_equiv order, bigSep_univ_prod]
  rfl

omit [FloatOps F] [Named F] in
/-- The result is the tiles' rows of it. -/
theorem rows_eq (d : Dev nD) (o : S768x50176.Idx → F .f32) :
    ((SparseCore.T d).loc main_v3 ↦{fullShare} o : sProp 𝕄)
      = bigSep Finset.univ fun c : Fin 2 => bigSep Finset.univ fun i : Fin 16 => (SparseCore.T d).loc main_v3 ↦[tileRows (tileAt c i)]{fullShare} o := by
  have hd : ∀ x ∈ (Finset.univ : Finset (Fin 2 × Fin 16)), ∀ y ∈ (Finset.univ : Finset (Fin 2 × Fin 16)), x ≠ y →
      Disjoint (tileRows (tileAt x.1 x.2)) (tileRows (tileAt y.1 y.2)) := by
    intro x _ y _ hxy
    refine Finset.disjoint_left.mpr fun j hx hy => hxy ?_
    have h1 : 48 * x.2.val + 24 * x.1.val ≤ (j 0).val ∧ (j 0).val < 48 * x.2.val + 24 * x.1.val + 24 := (Finset.mem_filter.mp hx).2
    have h2 : 48 * y.2.val + 24 * y.1.val ≤ (j 0).val ∧ (j 0).val < 48 * y.2.val + 24 * y.1.val + 24 := (Finset.mem_filter.mp hy).2
    have := x.1.isLt; have := y.1.isLt
    exact Prod.ext (Fin.ext (by omega)) (Fin.ext (by omega))
  have hc : (Finset.univ : Finset (Fin 2 × Fin 16)).biUnion (fun x => tileRows (tileAt x.1 x.2)) = Finset.univ := by
    refine Finset.eq_univ_iff_forall.mpr fun j => Finset.mem_biUnion.mpr ?_
    have hj : (j 0).val < 768 := (j 0).isLt
    refine ⟨(⟨(j 0).val / 24 % 2, by omega⟩, ⟨(j 0).val / 48, by omega⟩), Finset.mem_univ _, Finset.mem_filter.mpr ⟨Finset.mem_univ _, ?_⟩⟩
    show 48 * ((j 0).val / 48) + 24 * ((j 0).val / 24 % 2) ≤ (j 0).val ∧ (j 0).val < 48 * ((j 0).val / 48) + 24 * ((j 0).val / 24 % 2) + 24
    omega
  have h := pointsTo_biUnion (ℓ := (SparseCore.T d).loc main_v3) (q := fullShare) (f := o) (τ := τ) (Val := Elt F) (Name := ℕ) (U := UU) (Lvl := ℕ) (Ix := HIx 1)
    (Finset.univ : Finset (Fin 2 × Fin 16)) (fun x => tileRows (tileAt x.1 x.2)) hd
  rw [hc, bigSep_univ_prod] at h
  exact h

/-- The operands and the result are what the tiles are dealt. -/
theorem dealt_eq (d : Dev nD) (o : S768x50176.Idx → F .f32) :
    (bigSep Finset.univ fun c : Fin 2 => dealtTo m d o c : sProp 𝕄)
      = iprop(((SparseCore.T d).loc main_v0 ↦{fullShare} imgOf m d) ∗ ((SparseCore.T d).loc main_v1 ↦{fullShare} dxOf m d) ∗ ((SparseCore.T d).loc main_v2 ↦{fullShare} dyOf m d)
          ∗ ((SparseCore.T d).loc main_v3 ↦{fullShare} o)) := by
  rw [shares_eq ((SparseCore.T d).loc main_v0), shares_eq ((SparseCore.T d).loc main_v1), shares_eq ((SparseCore.T d).loc main_v2), rows_eq]
  unfold dealtTo dealt tilePts
  simp only [bigSep_sep']

/-! ## The call -/

/-- What the call hands the SparseCores and the tiles, and takes back. -/
def P : (K (F := F)).Pay (nD := nD) (Val := Elt F) (Name := ℕ) (U := UU) where
  st := fun q d c => match q with | 0 => dealtTo m d (m ((SparseCore.T d).loc main_v3)) c
  dn := fun q d c => match q with | 0 => dealtTo m d (result (imgOf m d) (dxOf m d) (dyOf m d)) c
  go := fun q d c i => match q with | 0 => dealt m d (m ((SparseCore.T d).loc main_v3)) (tileAt c i)
  td := fun q d c i => match q with | 0 => dealt m d (result (imgOf m d) (dxOf m d) (dyOf m d)) (tileAt c i)
  x := fun _ _ => iprop(emp)

instance P_storable : (P (F := F) m).IsStorable where
  st q d c := match q with
    | 0 => (inferInstance : BI.Storable (upEmb : UEmb _ 𝕄) (dealtTo m d (m ((SparseCore.T d).loc main_v3)) c))
  dn q d c := match q with
    | 0 => (inferInstance : BI.Storable (upEmb : UEmb _ 𝕄) (dealtTo m d (result (imgOf m d) (dxOf m d) (dyOf m d)) c))
  go q d c i := match q with
    | 0 => (inferInstance : BI.Storable (upEmb : UEmb _ 𝕄) (dealt m d (m ((SparseCore.T d).loc main_v3)) (tileAt c i)))
  td q d c i := match q with
    | 0 => (inferInstance : BI.Storable (upEmb : UEmb _ 𝕄) (dealt m d (result (imgOf m d) (dxOf m d) (dyOf m d)) (tileAt c i)))

theorem defs₀_vector (c : Fin τ.nSC) (s : Fin τ.nSub) :
    defs₀ (F := F) (.scVector c s) 0 ()
      = SparseCore.onTile hcore0 hsub0 (fun c s => cc0__warp_body (tileAt c s)
          imgV (Memref.isWhole_whole _) dxV (Memref.isWhole_whole _) dyV (Memref.isWhole_whole _) outV (Memref.isWhole_whole _)
          rowS (Memref.isWhole_whole _) dxS (Memref.isWhole_whole _) dyS (Memref.isWhole_whole _) resS (Memref.isWhole_whole _) colS (Memref.isWhole_whole _)
          cc0_scoped0 cc0_scoped1 cc0_scoped2 cc0_scoped3) ⟨⟩ c s := rfl

/-- Every tile's task meets what the call promises of it. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (tileAt ⟨_, hci.1⟩ ⟨_, hci.2⟩) O W hO _ _ _ _ _

/-- A SparseCore is handed exactly what its tiles are. -/
theorem vecSplit : (K (F := F)).VecSplit' (P m) 0 := by
  intro d c
  show (dealtTo m d (m ((SparseCore.T d).loc main_v3)) c)
    ⊢ |={Set.univ}=> iprop((dealtTo m d (m ((SparseCore.T d).loc main_v3)) c)
        ∗ ((dealtTo m d (result (imgOf m d) (dxOf m d) (dyOf m d)) c)
            -∗ dealtTo m d (result (imgOf m d) (dxOf m d) (dyOf m d)) c))
  iintro H; imodintro
  isplitl [H]; · iexact H
  iintro H; iexact H

/-! ## @main -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev b4 : DevRef τ sig := Proc.devRef .tc (main_v4 : Ref sig .tc)

/-- @main's four reshapes. -/
abbrev op0 : HloOp τ sig (Elt F) := StableHlo.reshape main_arg0 main_v0 (rfl : (.f32 : EltTy) = .f32) shapeCasts_S4x192x224x224_S768x50176
abbrev op1 : HloOp τ sig (Elt F) := StableHlo.reshape main_arg1 main_v1 (rfl : (.f32 : EltTy) = .f32) shapeCasts_S4x1x224x224_S4x50176
abbrev op2 : HloOp τ sig (Elt F) := StableHlo.reshape main_arg2 main_v2 (rfl : (.f32 : EltTy) = .f32) shapeCasts_S4x1x224x224_S4x50176
abbrev op4 : HloOp τ sig (Elt F) := StableHlo.reshape main_v3 main_v4 (rfl : (.f32 : EltTy) = .f32) shapeCasts_S768x50176_S4x192x224x224

/-- The TensorCore's arrays. -/
abbrev arrays : Finset (DevRef τ sig) := {b0, b1, b2, b3, a0, a1, a2, b4}

omit [FloatOps F] [Named F] in
theorem held_eq (d : Dev nD) (W : Valuation τ sig (Elt F)) :
    (held (SparseCore.T d) arrays W : sProp 𝕄)
      = iprop(((SparseCore.T d).loc main_v0 ↦{fullShare} W b0) ∗ ((SparseCore.T d).loc main_v1 ↦{fullShare} W b1) ∗ ((SparseCore.T d).loc main_v2 ↦{fullShare} W b2)
          ∗ ((SparseCore.T d).loc main_v3 ↦{fullShare} W b3) ∗ ((SparseCore.T d).loc main_arg0 ↦{fullShare} W a0) ∗ ((SparseCore.T d).loc main_arg1 ↦{fullShare} W a1)
          ∗ ((SparseCore.T d).loc main_arg2 ↦{fullShare} W a2) ∗ ((SparseCore.T d).loc main_v4 ↦{fullShare} W b4)) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents at the launch, after the first three reshapes, after the call, and at the end. -/
def V0 (d : Dev nD) : Valuation τ sig (Elt F) := fun b => m (d, b)
def V3 (d : Dev nD) : Valuation τ sig (Elt F) := op2.result (op1.result (op0.result (V0 m d)))
def V4 (d : Dev nD) : Valuation τ sig (Elt F) := Function.update (V3 m d) b3 (result (imgOf m d) (dxOf m d) (dyOf m d))
def V5 (d : Dev nD) : Valuation τ sig (Elt F) := op4.result (V4 m d)

omit [FloatOps F] [Named F] in
theorem unscoped_held (d : Dev nD) : (unscopedBufs d (fun b => m ((SparseCore.T d).loc b)) : sProp 𝕄) = held (SparseCore.T d) arrays (V0 m d) := by
  rw [held_eq]
  unfold unscopedBufs
  rw [show (Finset.univ.filter fun b : Ref sig .tc => ¬ b.isScoped) = {main_v0, main_v1, main_v2, main_v3, main_arg0, main_arg1, main_arg2, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] [Named F] in
theorem V3_b0 (d : Dev nD) : V3 m d b0 = imgOf m d := by
  unfold V3
  rw [StableHlo.reshape_result_ne (h := by decide), StableHlo.reshape_result_ne (h := by decide), StableHlo.reshape_result]
  rfl
omit [FloatOps F] [Named F] in
theorem V3_b1 (d : Dev nD) : V3 m d b1 = dxOf m d := by
  unfold V3
  rw [StableHlo.reshape_result_ne (h := by decide), StableHlo.reshape_result, StableHlo.reshape_result_ne (h := by decide)]
  rfl
omit [FloatOps F] [Named F] in
theorem V3_b2 (d : Dev nD) : V3 m d b2 = dyOf m d := by
  unfold V3
  rw [StableHlo.reshape_result, StableHlo.reshape_result_ne (h := by decide), StableHlo.reshape_result_ne (h := by decide)]
  rfl
omit [FloatOps F] [Named F] in
/-- The reshapes leave every array but the three they write. -/
theorem V3_ne (d : Dev nD) {r : Ref sig .tc} (h0 : r ≠ main_v0) (h1 : r ≠ main_v1) (h2 : r ≠ main_v2) : V3 m d (Proc.devRef .tc r) = m ((SparseCore.T d).loc r) := by
  unfold V3
  rw [StableHlo.reshape_result_ne (h := h2), StableHlo.reshape_result_ne (h := h1), StableHlo.reshape_result_ne (h := h0)]
  rfl

/-- The call writes its result's array only, and the last reshape the program's result only. -/
theorem V4_b3 (d : Dev nD) : V4 m d b3 = result (imgOf m d) (dxOf m d) (dyOf m d) := Function.update_self _ _ _
theorem V4_ne (d : Dev nD) {b : DevRef τ sig} (h : b ≠ b3) : V4 m d b = V3 m d b := Function.update_of_ne h _ _
theorem V5_b4 (d : Dev nD) : V5 m d b4 = resultOf m d := by
  unfold V5
  rw [StableHlo.reshape_result, V4_b3]
  rfl
theorem V5_ne (d : Dev nD) {r : Ref sig .tc} (h : r ≠ main_v4) : V5 m d (Proc.devRef .tc r) = V4 m d (Proc.devRef .tc r) :=
  StableHlo.reshape_result_ne _ _ _ _ _ _ _ h

/-- What @main leaves: the program's result, and the arguments at their launch contents. -/
abbrev FIN (d : Dev nD) : sProp 𝕄 :=
  iprop(((SparseCore.T d).loc main_v4 ↦{fullShare} resultOf m d) ∗ ((SparseCore.T d).loc main_arg0 ↦{fullShare} m ((SparseCore.T d).loc main_arg0))
    ∗ ((SparseCore.T d).loc main_arg1 ↦{fullShare} m ((SparseCore.T d).loc main_arg1)) ∗ ((SparseCore.T d).loc main_arg2 ↦{fullShare} m ((SparseCore.T d).loc main_arg2)))

theorem st_eq (d : Dev nD) : (bigSep Finset.univ fun c : Fin ((K (F := F)).nCore 0) => (P m).st 0 d c)
    = iprop(((SparseCore.T d).loc main_v0 ↦{fullShare} imgOf m d) ∗ ((SparseCore.T d).loc main_v1 ↦{fullShare} dxOf m d) ∗ ((SparseCore.T d).loc main_v2 ↦{fullShare} dyOf m d)
        ∗ ((SparseCore.T d).loc main_v3 ↦{fullShare} m ((SparseCore.T d).loc main_v3))) := dealt_eq m d _
theorem dn_eq (d : Dev nD) : (bigSep Finset.univ fun c : Fin ((K (F := F)).nCore 0) => (P m).dn 0 d c)
    = iprop(((SparseCore.T d).loc main_v0 ↦{fullShare} imgOf m d) ∗ ((SparseCore.T d).loc main_v1 ↦{fullShare} dxOf m d) ∗ ((SparseCore.T d).loc main_v2 ↦{fullShare} dyOf m d)
        ∗ ((SparseCore.T d).loc main_v3 ↦{fullShare} result (imgOf m d) (dxOf m d) (dyOf m d))) := dealt_eq m d _

/-- @main on device `d`'s TensorCore: the reshapes, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := arrays) (show ({a0, b0} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := arrays) (show ({a1, b1} : Finset (DevRef τ sig)) ⊆ arrays by decide) (V := op0.result (V0 m d))) $$ [Hb Hheld]
  · isplitl [Hb] <;> iassumption
  iintro ⟨Hb, Hheld⟩
  rw [wp_ret]; imodintro
  iapply (wp_hlo_within 𝒱 (SparseCore.T d) none Set.univ (op := op2) (S := arrays) (show ({a2, b2} : Finset (DevRef τ sig)) ⊆ arrays by decide) (V := op1.result (op0.result (V0 m d)))) $$ [Hb Hheld]
  · isplitl [Hb] <;> iassumption
  iintro ⟨Hb, Hheld⟩
  rw [wp_ret]; imodintro
  ihave Hh := (Entails.of_eq (show held (SparseCore.T d) arrays (op2.result (op1.result (op0.result (V0 m d)))) = _ from held_eq (F := F) d (V3 m d))) $$ Hheld
  icases Hh with ⟨H0, H1, H2, H3, Hrest⟩
  iapply ((K (F := F)).wp_run (D (F := F)) 𝒱 (EH := EH) (P := P m) κ d 0) $$ [Hst H0 H1 H2 H3 Hrest Hb Hts]
  isplitr; · iexact Hctx
  isplitl [Hst]; · iexact Hst
  isplitl [H0 H1 H2 H3]
  · rw [st_eq, V3_b0, V3_b1, V3_b2, V3_ne m d (r := main_v3) (by decide) (by decide) (by decide)]
    isplitl [H0]; · iexact H0
    isplitl [H1]; · iexact H1
    isplitl [H2]; · iexact H2
    iexact H3
  iintro ⟨Hst, Hdn⟩
  ihave Hdn' := (Entails.of_eq (dn_eq m d)) $$ Hdn
  icases Hdn' with ⟨H0, H1, H2, H3⟩
  iapply (wp_hlo_within 𝒱 (SparseCore.T d) none Set.univ (op := op4) (S := arrays) (show ({b3, b4} : Finset (DevRef τ sig)) ⊆ arrays by decide) (V := V4 m d)) $$ [Hb H0 H1 H2 H3 Hrest]
  · isplitl [Hb]; · iexact Hb
    rw [held_eq, V4_b3, V4_ne m d (b := b0) (by decide), V4_ne m d (b := b1) (by decide), V4_ne m d (b := b2) (by decide), V4_ne m d (b := a0) (by decide),
      V4_ne m d (b := a1) (by decide), V4_ne m d (b := a2) (by decide), V4_ne m d (b := b4) (by decide), V3_b0, V3_b1, V3_b2]
    isplitl [H0]; · iexact H0
    isplitl [H1]; · iexact H1
    isplitl [H2]; · iexact H2
    isplitl [H3]; · iexact H3
    iexact Hrest
  iintro ⟨Hb, Hheld⟩
  ihave Hh := (Entails.of_eq (show held (SparseCore.T d) arrays (op4.result (V4 m d)) = _ from held_eq (F := F) d (V5 m d))) $$ Hheld
  rw [V5_b4, V5_ne m d (r := main_arg0) (by decide), V5_ne m d (r := main_arg1) (by decide), V5_ne m d (r := main_arg2) (by decide),
    V4_ne m d (b := a0) (by decide), V4_ne m d (b := a1) (by decide), V4_ne m d (b := a2) (by decide),
    V3_ne m d (r := main_arg0) (by decide) (by decide) (by decide), V3_ne m d (r := main_arg1) (by decide) (by decide) (by decide),
    V3_ne m d (r := main_arg2) (by decide) (by decide) (by decide)]
  icases Hh with ⟨-, -, -, -, Ha0, Ha1, Ha2, H4⟩
  rw [wp_ret]; imodintro; imodintro
  isplitl [Hst]; · iexact Hst
  isplitr [Hb Hts]
  · isplitl [H4]; · iexact H4
    isplitl [Ha0]; · iexact Ha0
    isplitl [Ha1]; · iexact Ha1
    iexact Ha2
  isplitl [Hb] <;> iassumption

/-! ## The run -/

/-- What the final memory holds, on device `d`. -/
def Final (d : Dev nD) (mem : (ℓ : Loc nD τ sig) → Buf (Elt F) ℓ) : Prop :=
  mem ((SparseCore.T d).loc main_v4) = resultOf m d ∧ mem ((SparseCore.T d).loc main_arg0) = m ((SparseCore.T d).loc main_arg0)
    ∧ mem ((SparseCore.T d).loc main_arg1) = m ((SparseCore.T d).loc main_arg1) ∧ mem ((SparseCore.T d).loc main_arg2) = m ((SparseCore.T d).loc main_arg2)

omit [FloatOps F] [Named F] in
/-- An array owned whole is what the memory holds. -/
theorem mem_of_pointsTo (s' : Phys nD τ sig (Elt F)) (ℓ : Loc nD τ sig) (f : Buf (Elt F) ℓ) (R : sProp 𝕄) :
    iprop(((ℓ ↦{fullShare} f) ∗ R) ∗ SI s') ⊢ (iprop(⌜s'.mem.mem ℓ = f⌝ ∗ (R ∗ SI s')) : sProp 𝕄) := by
  iintro ⟨⟨H, HR⟩, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  isplitl [HR] <;> iassumption

theorem hfin (d : Dev nD) (s' : Phys nD τ sig (Elt F)) : iprop(FIN m d ∗ SI s') ⊢ (⌜Final m d s'.mem.mem⌝ : sProp 𝕄) := by
  iintro H
  ihave H := (mem_of_pointsTo s' _ _ _) $$ H
  icases H with ⟨%h4, H⟩
  ihave H := (mem_of_pointsTo s' _ _ _) $$ H
  icases H with ⟨%h0, H⟩
  ihave H := (mem_of_pointsTo s' _ _ _) $$ H
  icases H with ⟨%h1, H2, HSI⟩
  ihave H := (mem_of_pointsTo s' _ _ iprop(emp)) $$ [H2 HSI]
  · isplitl [H2]
    · isplitl [H2]; · iexact H2
      iempintro
    · iexact HSI
  icases H with ⟨%h2, -⟩
  ipureintro; exact ⟨h4, h0, h1, h2⟩

/-- The launch's ghost state: the handshakes' rounds; nothing of the kernel's own. -/
def u₀ : UU := (initOf (K (F := F)).hsCells (K (F := F)).hsToks, 1)

omit [FloatOps F] [Named F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-- Every execution of the program ends with its result at `resultOf`, its arguments unchanged and its semaphores at zero. -/
theorem run_main [∀ e, Nonempty (Elt F e)] :
    θ_run (Cert.KernelIdeal.defs (F := F)) (Cert.KernelIdeal.threads (F := F)) ⟨m, fun _ => 0, ρ⟩
      (fun r => (∀ d, Final m d r.2.mem) ∧ r.2.sem = fun _ => 0) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Final m d s'.mem.mem) (hfin m)
    (fun r => (∀ d, Final m d r.2.mem) ∧ r.2.sem = fun _ => 0) (fun _ h hz => ⟨h, hz⟩)

end Cert.KernelIdeal.Tile

end
-- ==== Proof.Axis.lean ====
/-
  ONE PIXEL OVER THE EXTENDED REALS. The kernel rounds a position down by converting it to an integer, which clamps a position too
  large for 32 bits; the reference takes its floor. Where the corner a weight belongs to is on the axis, both name the same pixel and
  the same weight; where it is not, both weights count for nothing. So the two samples are the same extended real at every position,
  the infinite ones included.
-/
module

public import proofs.«01_k».proof.Proof.Pixel
public import Idealize.ShloMosaic.PureOps.Ideal
public import Idealize.ShloMosaic.Lib.IdealHost

@[expose] public section

noncomputable section

namespace Cert.Warp

open Idealize.ShloMosaic

/-! ## The constants -/

theorem ofBits_223 : Ideal.ofBits .f32 0x435F0000#32 = ((223 : ℝ) : EReal) := by
  simp [Ideal.ofBits, Ideal.ieee, -EReal.coe_mul]; norm_num
theorem ofBits_222 : Ideal.ofBits .f32 0x435E0000#32 = ((222 : ℝ) : EReal) := by
  simp [Ideal.ofBits, Ideal.ieee, -EReal.coe_mul]; norm_num
theorem ofBits_224 : Ideal.ofBits .f32 0x43600000#32 = ((224 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul, -EReal.coe_neg]; norm_num
theorem ofBits_one : Ideal.ofBits .f32 0x3F800000#32 = ((1 : ℝ) : EReal) := by
  simp

/-! ## The reference's corner -/

/-- The floor of a position. -/
def floor (v : EReal) : EReal := Ideal.liftRound Int.floor v

/-- Whether a corner is on the axis. -/
def On (x : EReal) : Prop := 0 ≤ x ∧ x ≤ ((223 : ℝ) : EReal)

instance (x : EReal) : Decidable (On x) := inferInstanceAs (Decidable (_ ∧ _))

/-- The pixel number of a corner, clamped to the axis. -/
def onAxis (x : EReal) : BitVec 32 := Ideal.fptosi 32 (min ((223 : ℝ) : EReal) (max 0 x))

/-- The clamped pixel number of a corner that is the integer `k` of the axis is `k`. -/
theorem onAxis_int {k : ℤ} (h0 : 0 ≤ k) (h1 : k ≤ 223) : onAxis ((k : ℝ) : EReal) = BitVec.ofInt 32 k := by
  have a : (0 : ℝ) ≤ k := by exact_mod_cast h0
  have b : (k : ℝ) ≤ 223 := by exact_mod_cast h1
  unfold onAxis Ideal.fptosi
  rw [max_eq_right (by exact_mod_cast a), min_eq_right (by exact_mod_cast b), Ideal.toIntClamped_coe, if_pos a, Int.floor_intCast]
  congr 1
  omega

/-- A clamped pixel number is at most 223. -/
theorem onAxis_le (x : EReal) : (onAxis x).toNat ≤ 223 := by
  have h0 : (0 : EReal) ≤ min ((223 : ℝ) : EReal) (max 0 x) := le_min (by exact_mod_cast (by norm_num : (0 : ℝ) ≤ 223)) (le_max_left _ _)
  have h1 : min ((223 : ℝ) : EReal) (max 0 x) ≤ ((223 : ℝ) : EReal) := min_le_left _ _
  unfold onAxis
  generalize min ((223 : ℝ) : EReal) (max 0 x) = y at h0 h1
  induction y using EReal.rec with
  | bot => exact absurd h0 (by simp)
  | top => exact absurd h1 (by simp)
  | coe r =>
    have a : 0 ≤ r := by exact_mod_cast h0
    have b : r ≤ 223 := by exact_mod_cast h1
    have c : 0 ≤ ⌊r⌋ := Int.floor_nonneg.2 a
    have d : ⌊r⌋ ≤ 223 := by
      have : (⌊r⌋ : ℝ) ≤ 223 := (Int.floor_le r).trans b
      exact_mod_cast this
    unfold Ideal.fptosi
    rw [Ideal.toIntClamped_coe, if_pos a, BitVec.toNat_ofInt]
    omega

/-! ## The kernel's cell -/

/-- The kernel's cell at the ideal values: the position converted to an integer, less one where that is above the position. -/
theorem cell_ideal (v : Ideal .f32) :
    cell (F := Ideal) v = Ideal.fptosi 32 v - (if v < (((Ideal.fptosi 32 v).toInt : ℝ) : EReal) then 1#32 else 0#32) := by
  show Ideal.fptosi 32 v - Scalar.select (BitVec.ofBool (decide (v < (((Ideal.fptosi 32 v).toInt : ℝ) : EReal)))) 1#32 0#32 = _
  by_cases h : v < (((Ideal.fptosi 32 v).toInt : ℝ) : EReal)
  · rw [if_pos h, decide_eq_true h]; rfl
  · rw [if_neg h, decide_eq_false h]; rfl

/-- A word made of an integer that 32 bits hold reads back as that integer. -/
theorem toInt_word {k : ℤ} (h0 : -2147483648 ≤ k) (h1 : k ≤ 2147483647) : (BitVec.ofInt 32 k).toInt = k := by
  rw [BitVec.toInt_ofInt, Int.bmod_def]
  split <;> omega

/-- A word's number less one: one below, or from the least word round to the greatest. -/
theorem toInt_pred (w : BitVec 32) : (w - 1#32).toInt = if w.toInt = -2147483648 then 2147483647 else w.toInt - 1 := by
  have a := BitVec.le_toInt w
  have b := BitVec.toInt_lt (x := w)
  rw [BitVec.toInt_sub, show (1#32 : BitVec 32).toInt = 1 from rfl, Int.bmod_def]
  split <;> split <;> omega

/-- A position either is real, its cell then its floor, or lies so far off the axis that its cell's number does as well. -/
theorem cell_cases (v : EReal) :
    (∃ r : ℝ, v = r ∧ (cell (F := Ideal) v).toInt = ⌊r⌋)
      ∨ 300 < (cell (F := Ideal) v).toInt ∧ ¬ On (floor v) ∧ ¬ On (floor v + ((1 : ℝ) : EReal)) := by
  rw [cell_ideal]
  induction v using EReal.rec with
  | bot =>
    refine Or.inr ⟨?_, fun h => absurd h.1 (by simp [floor]), fun h => absurd h.1 (by simp [floor])⟩
    have e : Ideal.fptosi 32 (⊥ : EReal) = BitVec.ofInt 32 (-2147483648) := rfl
    rw [e, if_pos (EReal.bot_lt_coe _)]
    decide
  | top =>
    refine Or.inr ⟨?_, fun h => absurd h.2 (not_le.2 (EReal.coe_lt_top _)),
      fun h => absurd h.2 (not_le.2 ?_)⟩
    swap
    · show _ < (⊤ : EReal) + ((1 : ℝ) : EReal)
      rw [EReal.top_add_coe]; exact EReal.coe_lt_top _
    have e : Ideal.fptosi 32 (⊤ : EReal) = BitVec.ofInt 32 2147483647 := rfl
    rw [e, if_neg (not_lt.2 le_top)]
    decide
  | coe r =>
    have f0 := Int.floor_le_ceil r
    have f1 := Int.ceil_le_floor_add_one r
    have hneg : r < 0 → ⌊r⌋ < 0 := fun h => Int.floor_lt.2 (by exact_mod_cast h)
    have hpos : 0 ≤ r → 0 ≤ ⌊r⌋ := Int.floor_nonneg.2
    generalize ht : max (-2147483648) (min 2147483647 (if 0 ≤ r then ⌊r⌋ else ⌈r⌉)) = t
    have e : Ideal.fptosi 32 (r : EReal) = BitVec.ofInt 32 t := by rw [← ht]; rfl
    have hw : (BitVec.ofInt 32 t).toInt = t := toInt_word (by omega) (by omega)
    have hlt : ((r : EReal) < ((t : ℝ) : EReal)) ↔ ⌊r⌋ < t := EReal.coe_lt_coe_iff.trans Int.floor_lt.symm
    have off : (⌊r⌋ < -2 ∨ 300 < ⌊r⌋) → ¬ On (floor (r : EReal)) ∧ ¬ On (floor (r : EReal) + ((1 : ℝ) : EReal)) := by
      have key : ∀ k : ℤ, (k < 0 ∨ 223 < k) → ¬ On ((k : ℝ) : EReal) := by
        rintro k hk ⟨a, b⟩
        have a' : (0 : ℝ) ≤ k := by exact_mod_cast a
        have b' : (k : ℝ) ≤ 223 := by exact_mod_cast b
        have a'' : (0 : ℤ) ≤ k := by exact_mod_cast a'
        have b'' : k ≤ 223 := by exact_mod_cast b'
        omega
      intro h
      refine ⟨key _ (by omega), ?_⟩
      have e1 : floor (r : EReal) + ((1 : ℝ) : EReal) = (((⌊r⌋ + 1 : ℤ) : ℝ) : EReal) := by
        show ((⌊r⌋ : ℝ) : EReal) + ((1 : ℝ) : EReal) = _
        rw [← EReal.coe_add]; push_cast; rfl
      rw [e1]
      exact key _ (by omega)
    rw [e, hw]
    by_cases h : ⌊r⌋ < t
    · rw [if_pos (hlt.2 h), toInt_pred, hw]
      by_cases hl : t = -2147483648
      · rw [if_pos hl]
        exact Or.inr ⟨by decide, off (by omega)⟩
      · rw [if_neg hl]
        refine Or.inl ⟨r, rfl, ?_⟩
        by_cases hr : 0 ≤ r
        · rw [if_pos hr] at ht; have := hpos hr; omega
        · rw [if_neg hr] at ht; have := hneg (not_le.1 hr); omega
    · rw [if_neg (fun x => h (hlt.1 x)), BitVec.sub_zero, hw]
      by_cases hr : 0 ≤ r
      · rw [if_pos hr] at ht
        by_cases hh : 2147483647 < ⌊r⌋
        · exact Or.inr ⟨by omega, off (by omega)⟩
        · exact Or.inl ⟨r, rfl, by have := hpos hr; omega⟩
      · rw [if_neg hr] at ht
        exact Or.inl ⟨r, rfl, by have := hneg (not_le.1 hr); omega⟩

/-- The integer `k` is on the axis exactly when it is one of its pixel numbers. -/
theorem on_int (k : ℤ) : On ((k : ℝ) : EReal) ↔ 0 ≤ k ∧ k ≤ 223 := by
  constructor
  · rintro ⟨a, b⟩
    have a' : (0 : ℝ) ≤ k := by exact_mod_cast a
    have b' : (k : ℝ) ≤ 223 := by exact_mod_cast b
    exact ⟨by exact_mod_cast a', by exact_mod_cast b'⟩
  · rintro ⟨a, b⟩
    have a' : (0 : ℝ) ≤ k := by exact_mod_cast a
    have b' : (k : ℝ) ≤ 223 := by exact_mod_cast b
    exact ⟨by exact_mod_cast a', by exact_mod_cast b'⟩

/-- The next corner of a real position. -/
theorem floor_succ (r : ℝ) : floor (r : EReal) + ((1 : ℝ) : EReal) = (((⌊r⌋ + 1 : ℤ) : ℝ) : EReal) := by
  show ((⌊r⌋ : ℝ) : EReal) + ((1 : ℝ) : EReal) = _
  rw [← EReal.coe_add]; push_cast; rfl

/-- A word that is a pixel number of the axis is its own clamp. -/
theorem clamp_int {w : BitVec 32} (h0 : 0 ≤ w.toInt) (h1 : w.toInt ≤ 223) : clamp w = BitVec.ofInt 32 w.toInt := by
  have h223 : (223#32 : BitVec 32).toInt = 223 := rfl
  have h00 : (0#32 : BitVec 32).toInt = 0 := rfl
  apply BitVec.eq_of_toInt_eq
  rw [toInt_word (by omega) (by omega)]
  unfold clamp IntOp.minsi IntOp.maxsi
  by_cases h2 : (0#32).slt w = true
  · rw [if_pos h2]
    by_cases h3 : w.slt 223#32 = true
    · rw [if_pos h3]
    · rw [if_neg h3, h223]
      rw [BitVec.slt_iff_toInt_lt, h223] at h3
      omega
  · rw [if_neg h2]
    rw [BitVec.slt_iff_toInt_lt, h00] at h2
    rw [if_pos (by decide), h00]
    omega

/-- Where the lower corner is on the axis, the kernel reads the reference's pixel. -/
theorem lo_ideal {v : EReal} (h : On (floor v)) : lo (F := Ideal) v = onAxis (floor v) := by
  rcases cell_cases v with ⟨r, rfl, e⟩ | ⟨-, n, -⟩
  · have k := (on_int ⌊r⌋).1 h
    exact (clamp_int (by omega) (by omega)).trans (by rw [e]; exact (onAxis_int k.1 k.2).symm)
  · exact absurd h n

/-- So does it where the upper corner is. -/
theorem hi_ideal {v : EReal} (h : On (floor v + ((1 : ℝ) : EReal))) : hi (F := Ideal) v = onAxis (floor v + ((1 : ℝ) : EReal)) := by
  rcases cell_cases v with ⟨r, rfl, e⟩ | ⟨-, -, n⟩
  · rw [floor_succ] at h ⊢
    have k := (on_int (⌊r⌋ + 1)).1 h
    have e1 : (cell (F := Ideal) (r : EReal) + 1#32).toInt = ⌊r⌋ + 1 := by
      rw [BitVec.toInt_add, e, show (1#32 : BitVec 32).toInt = 1 from rfl, Int.bmod_def]
      split <;> omega
    exact (clamp_int (w := cell (F := Ideal) (r : EReal) + 1#32) (by omega) (by omega)).trans (by rw [e1]; exact (onAxis_int k.1 k.2).symm)
  · exact absurd h n

/-- Two comparisons joined choose their branch when both hold. -/
theorem select_between (a b x y z : EReal) :
    Scalar.select (IntOp.andi (Ideal.cmp .oge x a) (Ideal.cmp .ole x b)) y z = if a ≤ x ∧ x ≤ b then y else z := by
  show Scalar.select (BitVec.ofBool (decide (a ≤ x)) &&& BitVec.ofBool (decide (x ≤ b))) y z = _
  by_cases h : a ≤ x <;> by_cases h' : x ≤ b <;> simp [h, h', Scalar.select]

/-- The kernel's weight of the lower corner: zero off the axis, else one less the reference's distance. -/
theorem near_ideal (v : EReal) : near (F := Ideal) v = if On (floor v) then ((1 : ℝ) : EReal) - (v - floor v) else 0 := by
  have e0 : near (F := Ideal) v = if Ideal.ofBits .f32 0x00000000#32 ≤ cellF (F := Ideal) v ∧ cellF (F := Ideal) v ≤ Ideal.ofBits .f32 0x435F0000#32
      then Ideal.ofBits .f32 0x3F800000#32 - (v - cellF (F := Ideal) v) else Ideal.ofBits .f32 0x00000000#32 := select_between _ _ _ _ _
  have e1 : cellF (F := Ideal) v = (((cell (F := Ideal) v).toInt : ℝ) : EReal) := rfl
  rw [e0, Ideal.ofBits_zero_f32, ofBits_223, ofBits_one]
  change (if On _ then _ else _) = _
  rcases cell_cases v with ⟨r, rfl, e⟩ | ⟨far, n, -⟩
  · rw [e1, e]; rfl
  · rw [if_neg n, if_neg]
    rw [e1, on_int]; omega

/-- The kernel's weight of the upper corner: zero off the axis, else the reference's distance. -/
theorem far_ideal (v : EReal) : far (F := Ideal) v = if On (floor v + ((1 : ℝ) : EReal)) then v - floor v else 0 := by
  have e0 : far (F := Ideal) v = if Ideal.ofBits .f32 0xBF800000#32 ≤ cellF (F := Ideal) v ∧ cellF (F := Ideal) v ≤ Ideal.ofBits .f32 0x435E0000#32
      then v - cellF (F := Ideal) v else Ideal.ofBits .f32 0x00000000#32 := select_between _ _ _ _ _
  have e1 : cellF (F := Ideal) v = (((cell (F := Ideal) v).toInt : ℝ) : EReal) := rfl
  have between : ∀ k : ℤ, (((-1 : ℝ) : EReal) ≤ ((k : ℝ) : EReal) ∧ ((k : ℝ) : EReal) ≤ ((222 : ℝ) : EReal)) ↔ -1 ≤ k ∧ k ≤ 222 := by
    intro k
    rw [EReal.coe_le_coe_iff, EReal.coe_le_coe_iff]
    exact and_congr (by exact_mod_cast Iff.rfl) (by exact_mod_cast Iff.rfl)
  rw [e0, Ideal.ofBits_zero_f32, ofBits_222, ofBits_neg_one, e1]
  rcases cell_cases v with ⟨r, rfl, e⟩ | ⟨far, -, n⟩
  · rw [e, floor_succ]
    refine if_congr ((between _).trans ((on_int _).trans (by omega)).symm) rfl rfl
  · rw [if_neg n, if_neg]
    rw [between]; omega

/-! ## The sample -/

/-- A weight lies between zero and one: it distributes over a sum of extended reals. -/
theorem distance_mem (v : EReal) (h : On (floor v) ∨ On (floor v + ((1 : ℝ) : EReal))) :
    ∃ t : ℝ, 0 ≤ t ∧ t ≤ 1 ∧ v - floor v = t := by
  rcases cell_cases v with ⟨r, rfl, -⟩ | ⟨-, n, n'⟩
  · exact ⟨Int.fract r, Int.fract_nonneg r, (Int.fract_lt_one r).le, rfl⟩
  · exact absurd h (not_or.2 ⟨n, n'⟩)

theorem near_mem (v : EReal) : 0 ≤ near (F := Ideal) v ∧ near (F := Ideal) v ≠ ⊤ := by
  rw [near_ideal]
  split
  · obtain ⟨t, h0, h1, e⟩ := distance_mem v (Or.inl ‹_›)
    rw [e, ← EReal.coe_sub]
    exact ⟨by exact_mod_cast sub_nonneg.2 h1, EReal.coe_ne_top _⟩
  · exact ⟨le_rfl, EReal.zero_ne_top⟩

theorem far_mem (v : EReal) : 0 ≤ far (F := Ideal) v ∧ far (F := Ideal) v ≠ ⊤ := by
  rw [far_ideal]
  split
  · obtain ⟨t, h0, h1, e⟩ := distance_mem v (Or.inr ‹_›)
    rw [e]
    exact ⟨by exact_mod_cast h0, EReal.coe_ne_top _⟩
  · exact ⟨le_rfl, EReal.zero_ne_top⟩

/-- One corner of the reference's sample: the pixel at column corner `x` and row corner `y`, or zero off the image. -/
def corner (img : ℕ → EReal) (x y : EReal) : EReal :=
  img (pixelNo (onAxis y) (onAxis x)).toNat * (if On x ∧ On y then ((1 : ℝ) : EReal) else 0)

/-- The reference's sample at position `u` along the columns and `v` along the rows: the four corners, each by the product of its
    two weights. -/
def refSample (img : ℕ → EReal) (u v : EReal) : EReal :=
  ((corner img (floor u) (floor v) * ((((1 : ℝ) : EReal) - (u - floor u)) * (((1 : ℝ) : EReal) - (v - floor v)))
    + corner img (floor u + ((1 : ℝ) : EReal)) (floor v) * ((u - floor u) * (((1 : ℝ) : EReal) - (v - floor v))))
    + corner img (floor u) (floor v + ((1 : ℝ) : EReal)) * ((((1 : ℝ) : EReal) - (u - floor u)) * (v - floor v)))
    + corner img (floor u + ((1 : ℝ) : EReal)) (floor v + ((1 : ℝ) : EReal)) * ((u - floor u) * (v - floor v))

/-- A corner by its weights: the kernel's masked weights at its own pixel, or the reference's mask at the reference's. -/
theorem corner_eq (img : ℕ → EReal) (x y p q : EReal) (c r : BitVec 32) (hc : On x → c = onAxis x) (hr : On y → r = onAxis y) :
    img (pixelNo r c).toNat * (if On x then p else 0) * (if On y then q else 0) = corner img x y * (p * q) := by
  unfold corner
  by_cases hx : On x
  · by_cases hy : On y
    · rw [if_pos hx, if_pos hy, if_pos ⟨hx, hy⟩, hc hx, hr hy, EReal.coe_one, mul_one, mul_assoc]
    · rw [if_neg hy, if_neg (not_and_of_not_right _ hy), mul_zero, mul_zero, zero_mul]
  · rw [if_neg hx, if_neg (not_and_of_not_left _ hx), mul_zero, zero_mul, mul_zero, zero_mul]

/-- THE TWO SAMPLES ARE EQUAL at every pair of positions, whatever the image holds. -/
theorem sample_ideal (img : ℕ → EReal) (u v : EReal) : sample (F := Ideal) img u v = refSample img u v := by
  show (img (pixelNo (lo (F := Ideal) v) (lo (F := Ideal) u)).toNat * near (F := Ideal) u
        + img (pixelNo (lo (F := Ideal) v) (hi (F := Ideal) u)).toNat * far (F := Ideal) u) * near (F := Ideal) v
      + (img (pixelNo (hi (F := Ideal) v) (lo (F := Ideal) u)).toNat * near (F := Ideal) u
        + img (pixelNo (hi (F := Ideal) v) (hi (F := Ideal) u)).toNat * far (F := Ideal) u) * far (F := Ideal) v = _
  rw [EReal.right_distrib_of_nonneg_of_ne_top (near_mem v).1 (near_mem v).2, EReal.right_distrib_of_nonneg_of_ne_top (far_mem v).1 (far_mem v).2,
    near_ideal u, near_ideal v, far_ideal u, far_ideal v]
  unfold refSample
  rw [corner_eq img _ _ _ _ _ _ lo_ideal lo_ideal, corner_eq img _ _ _ _ _ _ hi_ideal lo_ideal, corner_eq img _ _ _ _ _ _ lo_ideal hi_ideal,
    corner_eq img _ _ _ _ _ _ hi_ideal hi_ideal]
  exact (add_assoc _ _ _).symm

/-! ## The positions -/

/-- The reference's position of a pixel number displaced by `a`: through the coordinates from -1 to 1 and back. -/
def refPos (n : ℕ) (a : EReal) : EReal :=
  Ideal.div (((Ideal.div (((2 : ℝ) : EReal) * (((n : ℝ) : EReal) + a)) ((223 : ℝ) : EReal) - ((1 : ℝ) : EReal)) + ((1 : ℝ) : EReal)) * ((224 : ℝ) : EReal)
    - ((1 : ℝ) : EReal)) ((2 : ℝ) : EReal)

/-- The kernel's position of a pixel number, its scale 224/223, is the reference's. -/
theorem pos_ideal (n : ℕ) (a : EReal) :
    (((n : ℝ) : EReal) * ((224 / 223 : ℝ) : EReal) - ((1 / 2 : ℝ) : EReal)) + a * ((224 / 223 : ℝ) : EReal) = refPos n a := by
  have h2 : ((2 : ℝ) : EReal) ≠ 0 := by norm_num
  have h223 : ((223 : ℝ) : EReal) ≠ 0 := by norm_num
  unfold refPos Ideal.div
  rw [if_neg h2, if_neg h223, ← EReal.coe_inv, ← EReal.coe_inv]
  induction a using EReal.rec with
  | bot =>
    rw [EReal.bot_mul_coe_of_pos (by norm_num), EReal.add_bot, EReal.add_bot, EReal.coe_mul_bot_of_pos (by norm_num),
      EReal.bot_mul_coe_of_pos (by norm_num), EReal.bot_sub, EReal.bot_add, EReal.bot_mul_coe_of_pos (by norm_num), EReal.bot_sub,
      EReal.bot_mul_coe_of_pos (by norm_num)]
  | top =>
    rw [EReal.top_mul_coe_of_pos (by norm_num), EReal.coe_add_top, EReal.coe_mul_top_of_pos (by norm_num),
      EReal.top_mul_coe_of_pos (by norm_num), EReal.top_sub_coe, EReal.top_add_coe, EReal.top_mul_coe_of_pos (by norm_num), EReal.top_sub_coe,
      EReal.top_mul_coe_of_pos (by norm_num), ← EReal.coe_mul, ← EReal.coe_sub, EReal.coe_add_top]
  | coe a =>
    norm_cast
    push_cast
    ring

end Cert.Warp

end
-- ==== Proof.ReferencePixel.lean ====
/-
  THE REFERENCE, ONE PIXEL AT A TIME. The reference reads each of its four corners by the same operations: whether the corner is on
  the image, its clamped pixel number, the pixel taken there, and the product by the mask. Here those operations are read once, at an
  index, for any corner; the reference's result at a pixel is then the four corners by their weights.
-/
module

public import proofs.«01_k».proof.Proof.Axis
public import proofs.«01_k».proof.Proof.Gen.ReferenceIdeal.Read
public import Idealize.ShloMosaic.Lib.ValueIdxCore
public import Idealize.ShloMosaic.Lib.ReduceAll

@[expose] public section

noncomputable section

namespace Cert.ReferenceIdeal.Pixel

open Cert.ReferenceIdeal Cert.ReferenceIdeal.Gen Cert.ReferenceIdeal.Read Idealize.ShloMosaic Idealize.ShloMosaic.ValueIdx
  Idealize.ShloMosaic.StableHlo Cert.Warp

/-! ## Layout -/

/-- The row and the column of a pixel number. -/
def rowIx (p : Fin 50176) : Fin 224 := ⟨p.val / 224, by omega⟩
def colIx (p : Fin 50176) : Fin 224 := ⟨p.val % 224, by omega⟩

/-- A plane of a batch entry, repeated for each of its 192 images. -/
def spread {α : Type} (x : S4x224x224.Idx → α) : S4x192x50176.Idx → α :=
  broadcastInDim S4x192x50176 ![0, 1, 2] bcast_S4x1x50176_S4x192x50176_0_1_2 (shapeCast S4x1x50176 x shapeCasts_S4x224x224_S4x1x50176)

theorem spread_apply {α : Type} (x : S4x224x224.Idx → α) (b : Fin 4) (c : Fin 192) (p : Fin 50176) :
    spread x (ix3 b c p) = x (ix3 b (rowIx p) (colIx p)) := by
  refine (broadcastInDim_apply _ bcast_S4x1x50176_S4x192x50176_0_1_2 _ (ix3 b c p) (ix3 b (0 : Fin 1) p) fun a => ?_).trans
    (shapeCast_apply x shapeCasts_S4x224x224_S4x1x50176 _ _ ?_)
  · match a with
    | ⟨0, _⟩ => rfl
    | ⟨1, _⟩ => rfl
    | ⟨2, _⟩ => rfl
  · rw [Shape.rowMajor_val_three, Shape.rowMajor_val_three]
    show (b.val * 224 + p.val / 224) * 224 + p.val % 224 = (b.val * 1 + 0) * 50176 + p.val
    omega

/-- What bounds a plane's numbers bounds the numbers repeated. -/
theorem spread_lt (x : IVec S4x224x224 32) (n : ℕ) (h : ∀ k, (x k).toNat < n) (j : S4x192x50176.Idx) : (spread x j).toNat < n := by
  unfold spread broadcastInDim shapeCast
  exact h _

/-! ## The pixel taken at an index -/

/-- The gather along the last axis, read at an index: the operand at the start index there, when that is one of its places. -/
theorem gather_apply {α : Type} (x : S4x192x50176.Idx → α) (idx : IVec S4x192x50176x1 32) (b : Fin 4) (c : Fin 192) (p : Fin 50176) :
    Host.gather gather_S4x192x50176_S4x192x50176x1_S4x192x50176_n_2_01_01_2_3_111 x idx (ix3 b c p)
      = x (ix3 b c ⟨min (idx (ix4 b c p (0 : Fin 1))).toInt.toNat 50175, by omega⟩) := by
  unfold Host.gather
  congr 1
  funext a
  refine Fin.ext ?_
  generalize hd : gather_S4x192x50176_S4x192x50176x1_S4x192x50176_n_2_01_01_2_3_111 = D
  show D.start (ix3 b c p) idx a + D.batchCoord (ix3 b c p) a + D.offCoord (ix3 b c p) a = _
  have hoff : D.offCoord (ix3 b c p) a = 0 := GatherDims.offCoord_eq_zero _ _ _ (fun h => by
    rw [GatherDims.mem_sKept] at h
    subst hd
    revert h; revert a; decide)
  rw [hoff]
  have ha : a = 0 ∨ a = 1 ∨ a = 2 := by
    clear hoff
    revert a; decide
  rcases ha with rfl | rfl | rfl
  · rw [GatherDims.start_batching _ _ _ _ (by subst hd; decide)]
    subst hd
    simp only [Nat.zero_add, Nat.add_zero]
    unfold GatherDims.batchCoord
    rw [dif_pos (by decide)]
    rfl
  · rw [GatherDims.start_batching _ _ _ _ (by subst hd; decide)]
    subst hd
    simp only [Nat.zero_add, Nat.add_zero]
    unfold GatherDims.batchCoord
    rw [dif_pos (by decide)]
    rfl
  · rw [GatherDims.batchCoord_eq_zero _ _ _ (by subst hd; decide)]
    subst hd
    simp only [Nat.add_zero]
    unfold GatherDims.start
    rw [dif_pos (by decide)]
    have hsi : gather_S4x192x50176_S4x192x50176x1_S4x192x50176_n_2_01_01_2_3_111.siIdx (ix3 b c p)
        ⟨List.idxOf (2 : Fin 3) gather_S4x192x50176_S4x192x50176x1_S4x192x50176_n_2_01_01_2_3_111.startIndexMap,
          List.idxOf_lt_length_iff.2 (by decide)⟩ = ix4 b c p (0 : Fin 1) := by
      funext e; refine Fin.ext ?_
      match e with
      | ⟨0, _⟩ => rfl
      | ⟨1, _⟩ => rfl
      | ⟨2, _⟩ => rfl
      | ⟨3, _⟩ => rfl
    erw [hsi]
    rfl

/-- Negative pixel numbers counted from the end, as the reference's take counts them. -/
def wrap (idx : IVec S4x192x50176 32) : IVec S4x192x50176 32 :=
  select (cmpi .slt idx (broadcastInDim S4x192x50176 ![] bcast_S_S4x192x50176 (constantI S_ 32 0#32)))
    (addi idx (broadcastInDim S4x192x50176 ![] bcast_S_S4x192x50176 (constantI S_ 32 50176#32))) idx

/-- The start indices of its gather. -/
def starts (idx : IVec S4x192x50176 32) : IVec S4x192x50176x1 32 := shapeCast S4x192x50176x1 (wrap idx) shapeCasts_S4x192x50176_S4x192x50176x1

/-- Which of them are places of the operand. -/
def inside (s : IVec S4x192x50176x1 32) : IVec S4x192x50176x1 1 :=
  andi (cmpi .sge s (broadcastInDim S4x192x50176x1 ![] bcast_S_S4x192x50176x1 (constantI S_ 32 0#32)))
    (cmpi .sle s (broadcastInDim S4x192x50176x1 ![0, 1, 2, 3] bcast_S1x1x1x1_S4x192x50176x1_0_1_2_3
      (broadcastInDim S1x1x1x1 ![3] bcast_S1_S1x1x1x1_3 (constantI S1 32 50175#32))))

/-- The reference's take along the pixels: the gather, masked where a number is off the operand. -/
def take (img : S4x192x50176.Idx → EReal) (idx : IVec S4x192x50176 32) : S4x192x50176.Idx → EReal :=
  select (Host.reduce IntOp.andi (inside (starts idx)) (constantI S_ 1 1#1) reducesTo_S4x192x50176x1_S4x192x50176_d3 h_S_)
    (Host.gather gather_S4x192x50176_S4x192x50176x1_S4x192x50176_n_2_01_01_2_3_111 img (starts idx))
    (broadcastInDim S4x192x50176 ![] bcast_S_S4x192x50176 (constant (F := Ideal) S_ .f32 0x7FC00000#32))

/-- A selection where the condition holds. -/
theorem select_of_one {s : Shape} {α : Type} (c : s.Idx → BitVec 1) (x y : s.Idx → α) (j : s.Idx) (h : c j = 1#1) : select c x y j = x j := by
  show Scalar.select (c j) (x j) (y j) = x j
  rw [h]
  rfl

theorem toInt_of_lt {w : BitVec 32} (h : w.toNat < 50176) : w.toInt = w.toNat := by
  rw [BitVec.toInt_eq_toNat_cond, if_pos (by omega)]

theorem wrap_eq (idx : IVec S4x192x50176 32) (h : ∀ j, (idx j).toNat < 50176) : wrap idx = idx := by
  funext j
  have : BitVec.slt (idx j) 0#32 = false := by
    rw [Bool.eq_false_iff, Ne, BitVec.slt_iff_toInt_lt, toInt_of_lt (h j)]
    show ¬ ((idx j).toNat : ℤ) < 0
    omega
  show Scalar.select (BitVec.ofBool (BitVec.slt (idx j) 0#32)) _ _ = _
  rw [this]
  rfl

theorem inside_eq (s : IVec S4x192x50176x1 32) (k : S4x192x50176x1.Idx) (h : (s k).toNat < 50176) : inside s k = 1#1 := by
  have a1 : BitVec.sle 0#32 (s k) = true := by
    rw [BitVec.sle_iff_toInt_le, toInt_of_lt h]
    show (0 : ℤ) ≤ _
    omega
  have a2 : BitVec.sle (s k) 50175#32 = true := by
    rw [BitVec.sle_iff_toInt_le, toInt_of_lt h]
    show _ ≤ (50175 : ℤ)
    omega
  show BitVec.ofBool (BitVec.sle 0#32 (s k)) &&& BitVec.ofBool (BitVec.sle (s k) 50175#32) = 1#1
  rw [a1, a2]
  rfl

/-- The take at numbers that are all places of the operand. -/
theorem take_apply (img : S4x192x50176.Idx → EReal) (idx : IVec S4x192x50176 32) (h : ∀ j, (idx j).toNat < 50176)
    (b : Fin 4) (c : Fin 192) (p : Fin 50176) :
    take img idx (ix3 b c p) = img (ix3 b c ⟨(idx (ix3 b c p)).toNat, h _⟩) := by
  have hs : ∀ k, (starts idx k).toNat < 50176 := fun k => by
    unfold starts
    rw [wrap_eq idx h]
    exact h _
  have e : starts idx (ix4 b c p (0 : Fin 1)) = idx (ix3 b c p) := by
    unfold starts
    rw [wrap_eq idx h]
    refine shapeCast_apply idx _ _ _ ?_
    rw [Shape.rowMajor_val_three, Shape.rowMajor_val_four]
    show (b.val * 192 + c.val) * 50176 + p.val = ((b.val * 192 + c.val) * 50176 + p.val) * 1 + 0
    omega
  unfold take
  generalize starts idx = s at hs e
  rw [select_of_one _ _ _ _ (Host.reduce_andi_one (inside s) (constantI S_ 1 1#1) reducesTo_S4x192x50176x1_S4x192x50176_d3 h_S_ _ rfl
    fun k => inside_eq s k (hs k)), gather_apply]
  refine congrArg (fun q => img (ix3 b c q)) (Fin.ext ?_)
  show min (s (ix4 b c p (0 : Fin 1))).toInt.toNat 50175 = (idx (ix3 b c p)).toNat
  have := h (ix3 b c p)
  rw [e, toInt_of_lt this]
  omega

/-! ## A corner -/

/-- One number at every pixel. -/
def splat (w : BitVec 32) : FVec Ideal S4x224x224 .f32 := broadcastInDim S4x224x224 ![] bcast_S_S4x224x224 (constant S_ .f32 w)

/-- Whether each pixel's corner is on the image. -/
def valid (x y : FVec Ideal S4x224x224 .f32) : IVec S4x224x224 1 :=
  andi (andi (andi (cmpf .oge x (splat 0x00000000#32)) (cmpf .ole x (splat 0x435F0000#32))) (cmpf .oge y (splat 0x00000000#32)))
    (cmpf .ole y (splat 0x435F0000#32))

/-- A corner's coordinate clamped to the axis, an integer. -/
def clip (x : FVec Ideal S4x224x224 .f32) : IVec S4x224x224 32 :=
  fptosi 32 (minimumf (broadcastInDim S4x224x224 ![] bcast_S_S4x224x224 (sitofp .f32 (constantI S_ 32 223#32)))
    (maximumf (broadcastInDim S4x224x224 ![] bcast_S_S4x224x224 (sitofp .f32 (constantI S_ 32 0#32))) x))

/-- Its row-major pixel number. -/
def number (x y : FVec Ideal S4x224x224 .f32) : IVec S4x224x224 32 :=
  addi (muli (clip y) (broadcastInDim S4x224x224 ![] bcast_S_S4x224x224 (constantI S_ 32 224#32))) (clip x)

/-- The corner of every image at every pixel, zero off the image. -/
def cornerAt (img : FVec Ideal S4x192x50176 .f32) (x y : FVec Ideal S4x224x224 .f32) : FVec Ideal S4x192x50176 .f32 :=
  mulf (take img (spread (number x y))) (spread (uitofp .f32 (valid x y)))

theorem clip_apply (x : FVec Ideal S4x224x224 .f32) (j : S4x224x224.Idx) : clip x j = onAxis (x j) := by
  show Ideal.fptosi 32 (min ((((223#32 : BitVec 32).toInt : ℝ) : EReal)) (max ((((0#32 : BitVec 32).toInt : ℝ) : EReal)) (x j))) = _
  rw [show (223#32 : BitVec 32).toInt = 223 from rfl, show (0#32 : BitVec 32).toInt = 0 from rfl]
  unfold onAxis
  norm_num

theorem number_apply (x y : FVec Ideal S4x224x224 .f32) (j : S4x224x224.Idx) : number x y j = pixelNo (onAxis (y j)) (onAxis (x j)) := by
  show pixelNo (clip y j) (clip x j) = _
  rw [clip_apply, clip_apply]

theorem number_lt (x y : FVec Ideal S4x224x224 .f32) (j : S4x224x224.Idx) : (number x y j).toNat < 50176 := by
  rw [number_apply]
  exact pixelNo_lt (onAxis_le _) (onAxis_le _)

theorem valid_apply (x y : FVec Ideal S4x224x224 .f32) (j : S4x224x224.Idx) :
    (uitofp .f32 (valid x y) : FVec Ideal S4x224x224 .f32) j = if On (x j) ∧ On (y j) then ((1 : ℝ) : EReal) else 0 := by
  show (((((BitVec.ofBool (decide (Ideal.ofBits .f32 0x00000000#32 ≤ x j)) &&& BitVec.ofBool (decide (x j ≤ Ideal.ofBits .f32 0x435F0000#32)))
    &&& BitVec.ofBool (decide (Ideal.ofBits .f32 0x00000000#32 ≤ y j))) &&& BitVec.ofBool (decide (y j ≤ Ideal.ofBits .f32 0x435F0000#32))).toNat : ℝ) : EReal) = _
  rw [Ideal.ofBits_zero_f32, ofBits_223]
  by_cases h1 : 0 ≤ x j <;> by_cases h2 : x j ≤ ((223 : ℝ) : EReal) <;> by_cases h3 : 0 ≤ y j <;> by_cases h4 : y j ≤ ((223 : ℝ) : EReal) <;>
    simp [On, h1, h2, h3, h4]

/-- The image read at a pixel number: the number itself, when it is one of a pixel. -/
theorem img_at (img : FVec Ideal S4x192x50176 .f32) (b : Fin 4) (c : Fin 192) (w : BitVec 32) (h : w.toNat < 50176) :
    img (ix3 b c ⟨w.toNat, h⟩) = img (ix3 b c (Fin.ofNat 50176 w.toNat)) :=
  congrArg (fun q => img (ix3 b c q)) (Fin.ext (Nat.mod_eq_of_lt h).symm)

/-- A product of arrays at an index is the product there. -/
theorem mul_at {s : Shape} (x y : FVec Ideal s .f32) (j : s.Idx) : mulf x y j = x j * y j := rfl

/-- A corner is the pixel taken times the mask. -/
theorem cornerAt_mul (img : FVec Ideal S4x192x50176 .f32) (x y : FVec Ideal S4x224x224 .f32) (j : S4x192x50176.Idx) :
    cornerAt img x y j = take img (spread (number x y)) j * spread (uitofp .f32 (valid x y) : FVec Ideal S4x224x224 .f32) j :=
  mul_at _ _ j

/-- A corner read at an index is the corner of the sample. -/
theorem cornerAt_apply (img : FVec Ideal S4x192x50176 .f32) (x y : FVec Ideal S4x224x224 .f32) (b : Fin 4) (c : Fin 192) (p : Fin 50176) :
    cornerAt img x y (ix3 b c p)
      = corner (fun n => img (ix3 b c (Fin.ofNat 50176 n))) (x (ix3 b (rowIx p) (colIx p))) (y (ix3 b (rowIx p) (colIx p))) := by
  have t := (take_apply img (spread (number x y)) (spread_lt (number x y) 50176 (number_lt x y)) b c p).trans (img_at img b c _ _)
  have u : spread (number x y) (ix3 b c p) = pixelNo (onAxis (y (ix3 b (rowIx p) (colIx p)))) (onAxis (x (ix3 b (rowIx p) (colIx p)))) :=
    (spread_apply _ b c p).trans (number_apply x y _)
  have v := (spread_apply (uitofp .f32 (valid x y) : FVec Ideal S4x224x224 .f32) b c p).trans (valid_apply x y _)
  have t' := t.trans (congrArg (fun w : BitVec 32 => img (ix3 b c (Fin.ofNat 50176 w.toNat))) u)
  exact (cornerAt_mul img x y (ix3 b c p)).trans (congrArg₂ (fun a b : EReal => a * b) t' v)

/-! ## The reference's four corners -/

section Corners

variable (x0 : S4x192x224x224.Idx → EReal) (x1 x2 : S4x1x224x224.Idx → EReal)

/-- Each of its corners is the corner above, at the floors or one further. -/
theorem corner00 : val_main_v86 (F := Ideal) x0 x1 x2
    = cornerAt (val_main_v61 (F := Ideal) x0) (val_main_v49 (F := Ideal) x1 x2) (val_main_v50 (F := Ideal) x1 x2) := rfl
theorem corner01 : val_main_v111 (F := Ideal) x0 x1 x2
    = cornerAt (val_main_v61 (F := Ideal) x0) (val_main_v52 (F := Ideal) x1 x2) (val_main_v50 (F := Ideal) x1 x2) := rfl
theorem corner10 : val_main_v136 (F := Ideal) x0 x1 x2
    = cornerAt (val_main_v61 (F := Ideal) x0) (val_main_v49 (F := Ideal) x1 x2) (val_main_v54 (F := Ideal) x1 x2) := rfl
theorem corner11 : val_main_v161 (F := Ideal) x0 x1 x2
    = cornerAt (val_main_v61 (F := Ideal) x0) (val_main_v52 (F := Ideal) x1 x2) (val_main_v54 (F := Ideal) x1 x2) := rfl

/-- The floors of the positions, the distances from them, and one less the distances. -/
def floorAt (u : FVec Ideal S4x224x224 .f32) : FVec Ideal S4x224x224 .f32 := Host.floor u
def nextAt (u : FVec Ideal S4x224x224 .f32) : FVec Ideal S4x224x224 .f32 := addf (Host.floor u) (splat 0x3F800000#32)
def distAt (u : FVec Ideal S4x224x224 .f32) : FVec Ideal S4x224x224 .f32 := subf u (Host.floor u)
def restAt (u : FVec Ideal S4x224x224 .f32) : FVec Ideal S4x224x224 .f32 := subf (splat 0x3F800000#32) (distAt u)

theorem floorAt_apply (u : FVec Ideal S4x224x224 .f32) (j : S4x224x224.Idx) : floorAt u j = floor (u j) := rfl
theorem nextAt_apply (u : FVec Ideal S4x224x224 .f32) (j : S4x224x224.Idx) : nextAt u j = floor (u j) + ((1 : ℝ) : EReal) := by
  show floor (u j) + Ideal.ofBits .f32 0x3F800000#32 = _
  rw [ofBits_one]
theorem distAt_apply (u : FVec Ideal S4x224x224 .f32) (j : S4x224x224.Idx) : distAt u j = u j - floor (u j) := rfl
theorem restAt_apply (u : FVec Ideal S4x224x224 .f32) (j : S4x224x224.Idx) : restAt u j = ((1 : ℝ) : EReal) - (u j - floor (u j)) := by
  show Ideal.ofBits .f32 0x3F800000#32 - (u j - floor (u j)) = _
  rw [ofBits_one]

/-- The four corners by their weights, summed. -/
def blend (img : FVec Ideal S4x192x50176 .f32) (u v : FVec Ideal S4x224x224 .f32) : FVec Ideal S4x192x50176 .f32 :=
  addf (addf (addf
    (mulf (cornerAt img (floorAt u) (floorAt v)) (spread (mulf (restAt u) (restAt v))))
    (mulf (cornerAt img (nextAt u) (floorAt v)) (spread (mulf (distAt u) (restAt v)))))
    (mulf (cornerAt img (floorAt u) (nextAt v)) (spread (mulf (restAt u) (distAt v)))))
    (mulf (cornerAt img (nextAt u) (nextAt v)) (spread (mulf (distAt u) (distAt v))))

theorem blend_eq : val_main_v180 (F := Ideal) x0 x1 x2
    = blend (val_main_v61 (F := Ideal) x0) (val_main_v40 (F := Ideal) x1 x2) (val_main_v48 (F := Ideal) x1 x2) := rfl

/-- A difference and a quotient of arrays at an index, and the array of one number. -/
theorem sub_at {s : Shape} (x y : FVec Ideal s .f32) (j : s.Idx) : subf x y j = x j - y j := rfl
theorem div_at {s : Shape} (x y : FVec Ideal s .f32) (j : s.Idx) : Host.divf x y j = Ideal.div (x j) (y j) := rfl
theorem splat_at (w : BitVec 32) (j : S4x224x224.Idx) : splat w j = Ideal.ofBits .f32 w := rfl
/-- A sum of arrays at an index is the sum there. -/
theorem add_at {s : Shape} (x y : FVec Ideal s .f32) (j : s.Idx) : addf x y j = x j + y j := rfl

/-- The sum at an index is the reference's sample at the positions there. -/
theorem blend_apply (img : FVec Ideal S4x192x50176 .f32) (u v : FVec Ideal S4x224x224 .f32) (b : Fin 4) (c : Fin 192) (p : Fin 50176) :
    blend img u v (ix3 b c p)
      = refSample (fun n => img (ix3 b c (Fin.ofNat 50176 n))) (u (ix3 b (rowIx p) (colIx p))) (v (ix3 b (rowIx p) (colIx p))) := by
  unfold blend refSample
  rw [add_at, add_at, add_at, mul_at, mul_at, mul_at, mul_at, cornerAt_apply, cornerAt_apply, cornerAt_apply, cornerAt_apply,
    spread_apply, spread_apply, spread_apply, spread_apply, mul_at, mul_at, mul_at, mul_at, floorAt_apply, floorAt_apply,
    nextAt_apply, nextAt_apply, distAt_apply, distAt_apply, restAt_apply, restAt_apply]

/-! ## Its positions -/

/-- A pixel number displaced, in coordinates from -1 to 1; and such a coordinate as a position. -/
def coordAt (n a : FVec Ideal S4x224x224 .f32) : FVec Ideal S4x224x224 .f32 :=
  subf (Host.divf (mulf (splat 0x40000000#32) (addf n a)) (splat 0x435F0000#32)) (splat 0x3F800000#32)
def backAt (g : FVec Ideal S4x224x224 .f32) : FVec Ideal S4x224x224 .f32 :=
  Host.divf (subf (mulf (addf g (splat 0x3F800000#32)) (splat 0x43600000#32)) (splat 0x3F800000#32)) (splat 0x40000000#32)

/-- One after the other they give the position of the sample. -/
theorem back_coord (n a : FVec Ideal S4x224x224 .f32) (g : FVec Ideal S4x224x224 .f32) (j : S4x224x224.Idx) (k : ℕ)
    (hg : g j = coordAt n a j) (hn : n j = ((k : ℝ) : EReal)) : backAt g j = refPos k (a j) := by
  unfold backAt
  rw [div_at, sub_at, mul_at, add_at, splat_at, splat_at, splat_at, hg]
  unfold coordAt
  rw [sub_at, div_at, mul_at, add_at, splat_at, splat_at, splat_at, hn, ofBits_two, ofBits_one, ofBits_224, ofBits_223]
  rfl

/-- A plane given a last axis of one, or without it. -/
theorem drop_unit {α : Type} (y : S4x224x224x1.Idx → α) (b : Fin 4) (r s : Fin 224) :
    shapeCast S4x224x224 y shapeCasts_S4x224x224x1_S4x224x224 (ix3 b r s) = y (ix4 b r s (0 : Fin 1)) := by
  refine shapeCast_apply y _ _ _ ?_
  rw [Shape.rowMajor_val_four, Shape.rowMajor_val_three]
  show ((b.val * 224 + r.val) * 224 + s.val) * 1 + 0 = (b.val * 224 + r.val) * 224 + s.val
  omega

/-- The displacements at a pixel. -/
theorem shift_x (b : Fin 4) (r s : Fin 224) : val_main_v5 (F := Ideal) x1 (ix3 b r s) = x1 (ix4 b (0 : Fin 1) r s) := by
  unfold val_main_v5
  rw [drop_unit, val_main_v4_apply]
  refine congrArg x1 (funext fun a => ?_)
  match a with
  | ⟨0, _⟩ => rfl
  | ⟨1, _⟩ => rfl
  | ⟨2, _⟩ => rfl
  | ⟨3, _⟩ => rfl
theorem shift_y (b : Fin 4) (r s : Fin 224) : val_main_v7 (F := Ideal) x2 (ix3 b r s) = x2 (ix4 b (0 : Fin 1) r s) := by
  unfold val_main_v7
  rw [drop_unit, val_main_v6_apply]
  refine congrArg x2 (funext fun a => ?_)
  match a with
  | ⟨0, _⟩ => rfl
  | ⟨1, _⟩ => rfl
  | ⟨2, _⟩ => rfl
  | ⟨3, _⟩ => rfl

/-- A pixel number below 224 as a word, then as an integer. -/
theorem toInt_pixel (n : ℕ) (h : n < 224) : (BitVec.ofNat 32 n).toInt = n := by
  rw [BitVec.toInt_eq_toNat_cond, BitVec.toNat_ofNat, Nat.mod_eq_of_lt (by omega), if_pos (by omega)]

/-- The column and the row of a pixel. -/
theorem base_x (b : Fin 4) (r s : Fin 224) : val_main_v9 (F := Ideal) (ix3 b r s) = ((s.val : ℝ) : EReal) := by
  rw [val_main_v9_apply, val_main_v8_apply, val_main_v3_apply]
  show (((BitVec.ofNat 32 s.val).toInt : ℝ) : EReal) = _
  rw [toInt_pixel s.val s.isLt]
  norm_cast
theorem base_y (b : Fin 4) (r s : Fin 224) : val_main_v18 (F := Ideal) (ix3 b r s) = ((r.val : ℝ) : EReal) := by
  rw [val_main_v18_apply, val_main_v17_apply, val_main_v2_apply]
  show (((BitVec.ofNat 32 r.val).toInt : ℝ) : EReal) = _
  rw [toInt_pixel r.val r.isLt]
  norm_cast

/-- The two coordinates, joined and separated again. -/
theorem coord_x (b : Fin 4) (r s : Fin 224) :
    val_main_v30 (F := Ideal) x1 x2 (ix3 b r s) = coordAt (val_main_v9 (F := Ideal)) (val_main_v5 (F := Ideal) x1) (ix3 b r s) := by
  unfold val_main_v30
  rw [drop_unit, val_main_v29_apply]
  unfold val_main_v28
  refine (concatenate_pair_apply_left 3 _ _ concatenates_S4x224x224x1_S4x224x224x1_S4x224x224x2_d3 _ rfl (ix4 b r s (0 : Fin 1)) fun a => ?_).trans ?_
  · match a with
    | ⟨0, _⟩ => rfl
    | ⟨1, _⟩ => rfl
    | ⟨2, _⟩ => rfl
    | ⟨3, _⟩ => rfl
  · rw [val_main_v26_apply]
    show coordAt (val_main_v9 (F := Ideal)) (val_main_v5 (F := Ideal) x1) _ = _
    refine congrArg _ (funext fun a => ?_)
    match a with
    | ⟨0, _⟩ => rfl
    | ⟨1, _⟩ => rfl
    | ⟨2, _⟩ => rfl
theorem coord_y (b : Fin 4) (r s : Fin 224) :
    val_main_v32 (F := Ideal) x1 x2 (ix3 b r s) = coordAt (val_main_v18 (F := Ideal)) (val_main_v7 (F := Ideal) x2) (ix3 b r s) := by
  unfold val_main_v32
  rw [drop_unit, val_main_v31_apply]
  unfold val_main_v28
  refine (concatenate_pair_apply_right 3 _ _ concatenates_S4x224x224x1_S4x224x224x1_S4x224x224x2_d3 _ rfl rfl (ix4 b r s (0 : Fin 1)) (fun a ha => ?_) ?_).trans ?_
  · match a with
    | ⟨0, _⟩ => rfl
    | ⟨1, _⟩ => rfl
    | ⟨2, _⟩ => rfl
    | ⟨3, _⟩ => exact absurd rfl ha
  · rfl
  · rw [val_main_v27_apply]
    show coordAt (val_main_v18 (F := Ideal)) (val_main_v7 (F := Ideal) x2) _ = _
    refine congrArg _ (funext fun a => ?_)
    match a with
    | ⟨0, _⟩ => rfl
    | ⟨1, _⟩ => rfl
    | ⟨2, _⟩ => rfl

theorem back_x : val_main_v40 (F := Ideal) x1 x2 = backAt (val_main_v30 (F := Ideal) x1 x2) := rfl
theorem back_y : val_main_v48 (F := Ideal) x1 x2 = backAt (val_main_v32 (F := Ideal) x1 x2) := rfl

/-- The reference's two positions at a pixel. -/
theorem pos_x (b : Fin 4) (r s : Fin 224) : val_main_v40 (F := Ideal) x1 x2 (ix3 b r s) = refPos s.val (x1 (ix4 b (0 : Fin 1) r s)) := by
  rw [back_x, back_coord _ _ _ _ s.val (coord_x x1 x2 b r s) (base_x b r s), shift_x]
theorem pos_y (b : Fin 4) (r s : Fin 224) : val_main_v48 (F := Ideal) x1 x2 (ix3 b r s) = refPos r.val (x2 (ix4 b (0 : Fin 1) r s)) := by
  rw [back_y, back_coord _ _ _ _ r.val (coord_y x1 x2 b r s) (base_y b r s), shift_y]

/-! ## Its result -/

/-- The image's pixel number `n` of image `c` in batch entry `b`. -/
def pixelAt (b : Fin 4) (c : Fin 192) (n : ℕ) : EReal := x0 (ix4 b c (rowIx (Fin.ofNat 50176 n)) (colIx (Fin.ofNat 50176 n)))

/-- The image with its pixels in one row. -/
theorem flat_apply (b : Fin 4) (c : Fin 192) (p : Fin 50176) : val_main_v61 (F := Ideal) x0 (ix3 b c p) = x0 (ix4 b c (rowIx p) (colIx p)) := by
  unfold val_main_v61
  refine shapeCast_apply x0 _ _ _ ?_
  rw [Shape.rowMajor_val_four, Shape.rowMajor_val_three]
  show ((b.val * 192 + c.val) * 224 + p.val / 224) * 224 + p.val % 224 = (b.val * 192 + c.val) * 50176 + p.val
  omega

/-- The pixel number of a row and a column. -/
def pixelIx (r s : Fin 224) : Fin 50176 := ⟨r.val * 224 + s.val, by omega⟩

/-- THE REFERENCE AT A PIXEL: the sample of its image at the pixel's two displaced positions. -/
theorem result_apply (b : Fin 4) (c : Fin 192) (r s : Fin 224) :
    val_main_v181 (F := Ideal) x0 x1 x2 (ix4 b c r s)
      = refSample (pixelAt x0 b c) (refPos s.val (x1 (ix4 b (0 : Fin 1) r s))) (refPos r.val (x2 (ix4 b (0 : Fin 1) r s))) := by
  have e : val_main_v181 (F := Ideal) x0 x1 x2 (ix4 b c r s) = val_main_v180 (F := Ideal) x0 x1 x2 (ix3 b c (pixelIx r s)) := by
    unfold val_main_v181
    refine shapeCast_apply _ _ _ _ ?_
    rw [Shape.rowMajor_val_four, Shape.rowMajor_val_three]
    show (b.val * 192 + c.val) * 50176 + (r.val * 224 + s.val) = ((b.val * 192 + c.val) * 224 + r.val) * 224 + s.val
    omega
  have hr : rowIx (pixelIx r s) = r := Fin.ext (show (r.val * 224 + s.val) / 224 = r.val by omega)
  have hs : colIx (pixelIx r s) = s := Fin.ext (show (r.val * 224 + s.val) % 224 = s.val by omega)
  rw [e, blend_eq, blend_apply, hr, hs, pos_x, pos_y]
  refine congrArg (fun f => refSample f _ _) (funext fun n => ?_)
  exact flat_apply x0 b c _

end Corners

end Cert.ReferenceIdeal.Pixel

end
-- ==== Proof.Equal.lean ====
/-
  THE TWO RESULTS ARE EQUAL. The kernel's result at a pixel is the sample of its image at its two positions; those positions and that
  sample are the reference's.
-/
module

public import proofs.«01_k».proof.Proof.KernelIdealRun
public import proofs.«01_k».proof.Proof.ReferencePixel

@[expose] public section

noncomputable section

namespace Cert.KernelIdeal.Tile

open Cert.KernelIdeal Cert.KernelIdeal.Gen Idealize.ShloMosaic Idealize.ShloMosaic.ValueIdx Cert.Warp
open Cert.ReferenceIdeal.Pixel (rowIx colIx pixelIx pixelAt toInt_pixel)

/-- The kernel's scale is the constant named for it. -/
theorem scale_eq : scale (F := Ideal) = ((224 / 223 : ℝ) : EReal) := rfl

/-- The base position of a column, and of a row. -/
theorem baseX_eq (n : ℕ) (h : n < 224) :
    baseX (F := Ideal) scale n = ((n : ℝ) : EReal) * ((224 / 223 : ℝ) : EReal) - ((1 / 2 : ℝ) : EReal) := by
  have e : baseX (F := Ideal) scale n = ((((BitVec.ofNat 32 n).toInt : ℝ) : EReal) * scale (F := Ideal)) - Ideal.ofBits .f32 0x3F000000#32 := rfl
  rw [e, toInt_pixel n h, scale_eq, ofBits_half, Int.cast_natCast]
theorem baseY_eq (n : ℕ) (h : n < 224) :
    baseY (F := Ideal) scale n = ((n : ℝ) : EReal) * ((224 / 223 : ℝ) : EReal) - ((1 / 2 : ℝ) : EReal) := baseX_eq n h

/-- A position of the kernel is the reference's. -/
theorem pos_eq (s a : EReal) (n : ℕ) (h : s = ((n : ℝ) : EReal) * ((224 / 223 : ℝ) : EReal) - ((1 / 2 : ℝ) : EReal)) :
    pos (F := Ideal) scale s a = refPos n a := by
  have e : pos (F := Ideal) scale s a = s + a * scale (F := Ideal) := rfl
  rw [e, scale_eq, h, pos_ideal]

/-- A pixel of the kernel is the reference's sample. -/
theorem pixel_eq (img : ℕ → EReal) (a b : EReal) (p : ℕ) (h : p < 50176) :
    pixel (F := Ideal) scale img a b p = refSample img (refPos (p % 224) a) (refPos (p / 224) b) := by
  unfold pixel
  rw [pos_eq _ _ _ (baseX_eq (p % 224) (by omega)), pos_eq _ _ _ (baseY_eq (p / 224) (by omega)), sample_ideal]

section Arrays

variable (x0 : S4x192x224x224.Idx → EReal) (x : S4x1x224x224.Idx → EReal)

/-- The images in rows, and the displacements: entry by entry those of the arguments. -/
theorem image_apply (b : Fin 4) (c : Fin 192) (p : Fin 50176) (u : Fin 768) (hu : u.val = b.val * 192 + c.val) :
    shapeCast S768x50176 x0 shapeCasts_S4x192x224x224_S768x50176 (ix2 u p) = x0 (ix4 b c (rowIx p) (colIx p)) := by
  refine shapeCast_apply x0 _ _ _ ?_
  rw [Shape.rowMajor_val_four, Shape.rowMajor_val_two]
  show ((b.val * 192 + c.val) * 224 + p.val / 224) * 224 + p.val % 224 = u.val * 50176 + p.val
  omega
theorem shift_apply (b : Fin 4) (p : Fin 50176) :
    shapeCast S4x50176 x shapeCasts_S4x1x224x224_S4x50176 (ix2 b p) = x (ix4 b (0 : Fin 1) (rowIx p) (colIx p)) := by
  refine shapeCast_apply x _ _ _ ?_
  rw [Shape.rowMajor_val_four, Shape.rowMajor_val_two]
  show ((b.val * 1 + 0) * 224 + p.val / 224) * 224 + p.val % 224 = b.val * 50176 + p.val
  omega

/-- The row of the images that holds image `c` of batch entry `b`. -/
def imageIx (b : Fin 4) (c : Fin 192) : Fin 768 := ⟨b.val * 192 + c.val, by omega⟩

/-- The result of the kernel, reshaped, at a pixel. -/
theorem reshaped_apply (g : S768x50176.Idx → EReal) (b : Fin 4) (c : Fin 192) (r s : Fin 224) :
    shapeCast S4x192x224x224 g shapeCasts_S768x50176_S4x192x224x224 (ix4 b c r s) = g (ix2 (imageIx b c) (pixelIx r s)) := by
  refine shapeCast_apply g _ _ _ ?_
  rw [Shape.rowMajor_val_four, Shape.rowMajor_val_two]
  show (b.val * 192 + c.val) * 50176 + (r.val * 224 + s.val) = ((b.val * 192 + c.val) * 224 + r.val) * 224 + s.val
  omega

/-- The row of an image, read at a pixel number. -/
theorem row_eq (b : Fin 4) (c : Fin 192) :
    row (F := Ideal) (rowOf (shapeCast S768x50176 x0 shapeCasts_S4x192x224x224_S768x50176) (imageIx b c).val) = pixelAt x0 b c := by
  funext n
  exact image_apply x0 b c (Fin.ofNat 50176 n) (Fin.ofNat 768 (imageIx b c).val) (Nat.mod_eq_of_lt (imageIx b c).isLt)

end Arrays

/-- THE KERNEL AT A PIXEL: the reference's sample. -/
theorem kernel_apply (x0 : S4x192x224x224.Idx → EReal) (x1 x2 : S4x1x224x224.Idx → EReal) (b : Fin 4) (c : Fin 192) (r s : Fin 224) :
    shapeCast S4x192x224x224 (result (F := Ideal) (shapeCast S768x50176 x0 shapeCasts_S4x192x224x224_S768x50176)
        (shapeCast S4x50176 x1 shapeCasts_S4x1x224x224_S4x50176) (shapeCast S4x50176 x2 shapeCasts_S4x1x224x224_S4x50176))
        shapeCasts_S768x50176_S4x192x224x224 (ix4 b c r s)
      = refSample (pixelAt x0 b c) (refPos s.val (x1 (ix4 b (0 : Fin 1) r s))) (refPos r.val (x2 (ix4 b (0 : Fin 1) r s))) := by
  rw [reshaped_apply]
  have hb : (Fin.ofNat 4 ((imageIx b c).val / 192)) = b := Fin.ext (by
    show (b.val * 192 + c.val) / 192 % 4 = b.val
    omega)
  have hr : rowIx (pixelIx r s) = r := Fin.ext (show (r.val * 224 + s.val) / 224 = r.val by omega)
  have hs : colIx (pixelIx r s) = s := Fin.ext (show (r.val * 224 + s.val) % 224 = s.val by omega)
  have hr' : (pixelIx r s).val / 224 = r.val := congrArg Fin.val hr
  have hs' : (pixelIx r s).val % 224 = s.val := congrArg Fin.val hs
  unfold result
  rw [pixel_eq _ _ _ _ (pixelIx r s).isLt]
  show refSample (row (F := Ideal) (rowOf _ (imageIx b c).val)) (refPos ((pixelIx r s).val % 224) (shapeCast S4x50176 x1 _ (ix2 (Fin.ofNat 4 ((imageIx b c).val / 192)) (pixelIx r s))))
    (refPos ((pixelIx r s).val / 224) (shapeCast S4x50176 x2 _ (ix2 (Fin.ofNat 4 ((imageIx b c).val / 192)) (pixelIx r s)))) = _
  rw [row_eq, hb, shift_apply, shift_apply, hr, hs, hr', hs']

/-- THE TWO PROGRAMS RETURN THE SAME, when given the same arguments. -/
theorem result_eq (x0 : S4x192x224x224.Idx → EReal) (x1 x2 : S4x1x224x224.Idx → EReal) :
    shapeCast S4x192x224x224 (result (F := Ideal) (shapeCast S768x50176 x0 shapeCasts_S4x192x224x224_S768x50176)
        (shapeCast S4x50176 x1 shapeCasts_S4x1x224x224_S4x50176) (shapeCast S4x50176 x2 shapeCasts_S4x1x224x224_S4x50176))
        shapeCasts_S768x50176_S4x192x224x224
      = Cert.ReferenceIdeal.Read.val_main_v181 (F := Ideal) x0 x1 x2 := by
  funext j
  rw [eq_ix4 j]
  exact (kernel_apply x0 x1 x2 _ _ _ _).trans (Cert.ReferenceIdeal.Pixel.result_apply x0 x1 x2 _ _ _ _).symm

end Cert.KernelIdeal.Tile

end
-- ==== Proof.lean ====
/-
  THE CERTIFICATE. The three frames come from the three programs' runs with the values dropped; the named constant is the one
  fact `preserves` states; the value claim is that the idealized kernel's result and the reference's are the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel runs, leaves its arguments as they were and every semaphore at zero. -/
theorem kernel_frame : Cert.quiescent_Kernel := fun m g _ =>
  (θ_run _ _ _).mono (fun _ h => ⟨fun c => (h.1 c).2, h.2⟩) (Cert.Kernel.Tile.run_main m g)

/-- So does its idealization. -/
theorem ideal_frame : Cert.quiescent_KernelIdeal := fun m g _ =>
  (θ_run _ _ _).mono (fun _ h => ⟨fun c => (h.1 c).2, h.2⟩) (Cert.KernelIdeal.Tile.run_main m g)

/-- And so does the reference. -/
theorem reference_frame : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- The constant the idealization names is 224/223, which rounds to the printed one. -/
theorem preserves : Cert.preserves_Kernel_KernelIdeal :=
  IdealRules.named_const.statement Cert.KernelIdeal.κ "scale" .f32 0x3F8092F1#32 ((224 / 223 : ℝ) : EReal) rfl

/-- From the same arguments the idealized kernel and the reference end with the same result, their arguments as they were. -/
theorem algebraic : Cert.algebraic_KernelIdeal_ReferenceIdeal := fun m g m' g' _ hargs =>
  ⟨fun c => Cert.KernelIdeal.Tile.resultOf m c,
    (θ_run _ _ _).mono (fun _ h => h.1) (Cert.KernelIdeal.Tile.run_main m g),
    (θ_run _ _ _).mono (fun _ h c => ⟨by
      refine (h c).1.trans ((Cert.ReferenceIdeal.Read.val_main_v181_eq (StableHlo.launchContents m' c)).trans ?_)
      rw [StableHlo.launchContents_devRef, StableHlo.launchContents_devRef, StableHlo.launchContents_devRef, (hargs c).1, (hargs c).2.1, (hargs c).2.2]
      exact (Cert.KernelIdeal.Tile.result_eq _ _ _).symm, (h c).2⟩) (Cert.ReferenceIdeal.Value.run m' g')⟩

theorem claim : Cert.Claim := ⟨Cert.Kernel.Gen.facts, Cert.KernelIdeal.Gen.facts, Cert.ReferenceIdeal.Gen.facts,
  kernel_frame, ideal_frame, reference_frame, preserves, algebraic⟩

end Cert.Proof

end
